-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_pooling [hPre_finite_pooling : Cert.Pre_finite_pooling.Facts] (m : (ℓ : Loc Cert.KernelIdeal.nD Cert.KernelIdeal.τ Cert.KernelIdeal.sig) → Buf (Elt Ideal) ℓ) : Prop :=
  ∀ c : Dev Cert.KernelIdeal.nD,
    (Cert.Pre_finite_pooling.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_pooling [hPre_finite_pooling : Cert.Pre_finite_pooling.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_pooling.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_pooling [hKernelIdeal : Cert.KernelIdeal.Facts] [hPre_finite_pooling : Cert.Pre_finite_pooling.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_pooling m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_pooling [hReferenceIdeal : Cert.ReferenceIdeal.Facts] [hPre_finite_pooling : Cert.Pre_finite_pooling.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_pooling m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_pooling [hKernelIdeal : Cert.KernelIdeal.Facts] [hReferenceIdeal : Cert.ReferenceIdeal.Facts] [hPre_finite_pooling : Cert.Pre_finite_pooling.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_pooling m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_pooling : Cert.Pre_finite_pooling.Facts),
    quiescent_Kernel (hKernel := hKernel)
    ∧ quiescent_KernelIdeal (hKernelIdeal := hKernelIdeal)
    ∧ quiescent_KernelIdeal_pre_finite_pooling (hKernelIdeal := hKernelIdeal) (hPre_finite_pooling := hPre_finite_pooling)
    ∧ quiescent_ReferenceIdeal (hReferenceIdeal := hReferenceIdeal)
    ∧ quiescent_ReferenceIdeal_pre_finite_pooling (hReferenceIdeal := hReferenceIdeal) (hPre_finite_pooling := hPre_finite_pooling)
    ∧ preserves_Kernel_KernelIdeal
    ∧ algebraic_KernelIdeal_ReferenceIdeal_pre_finite_pooling (hKernelIdeal := hKernelIdeal) (hReferenceIdeal := hReferenceIdeal) (hPre_finite_pooling := hPre_finite_pooling)
-- ==== Pre_finite_pooling.lean ====
abbrev S4x2048x1024 : Shape := ⟨3, ![4, 2048, 1024]⟩
abbrev S1024x1024 : Shape := ⟨2, ![1024, 1024]⟩
abbrev S1024 : Shape := ⟨1, ![1024]⟩
abbrev S1024x21 : Shape := ⟨2, ![1024, 21]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x21 : S_.BroadcastsInDim S1024x21 (![] : Fin 0 → Fin S1024x21.rank)
  reducesTo_S1024x21_S_d0_1 : S1024x21.ReducesTo [0, 1] S_

variable [Facts]

def fn_part1 {F : FTy → Type} [FloatOps F] (main_arg4 : FVec F S1024 .f32) (main_arg5 : FVec F S1024x21 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x21 .f32 := Host.absf main_arg5
  let main_cst_8 : FVec F S_ .f32 := constant S_ .f32 0x7F800000#32
  let main_v25 : FVec F S1024x21 .f32 := broadcastInDim S1024x21 ![] bcast_S_S1024x21 main_cst_8
  let main_v26 : IVec S1024x21 1 := cmpf .olt main_v24 main_v25
  let main_c_9 : IVec S_ 1 := constantI S_ 1 1#1
  let main_v27 : IVec S_ 1 := (fun x v => Host.reduce IntOp.andi x v reducesTo_S1024x21_S_d0_1 h_S_) main_v26 main_c_9
  let main_v28 : IVec S_ 1 := andi main_v23 main_v27
  main_v28

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x21 .f32) (main_arg6 : FVec F S1024x1024 .f32) (main_arg7 : FVec F S1024 .f32) (main_arg8 : FVec F S1024x1024 .f32) (main_arg9 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1024x21 : Shape := ⟨2, ![1024, 21]⟩
abbrev S1x1024 : Shape := ⟨2, ![1, 1024]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S1024x2048 : Shape := ⟨2, ![1024, 2048]⟩
abbrev S1x2048 : Shape := ⟨2, ![1, 2048]⟩
abbrev S2048x1024 : Shape := ⟨2, ![2048, 1024]⟩
abbrev S4x1x1024 : Shape := ⟨3, ![4, 1, 1024]⟩
abbrev S4x1024 : Shape := ⟨2, ![4, 1024]⟩
abbrev S1x256x1024 : Shape := ⟨3, ![1, 256, 1024]⟩
abbrev S256x1024 : Shape := ⟨2, ![256, 1024]⟩
abbrev S1x2048x128 : Shape := ⟨3, ![1, 2048, 128]⟩
abbrev S2048x128 : Shape := ⟨2, ![2048, 128]⟩
abbrev S1x1x128 : Shape := ⟨3, ![1, 1, 128]⟩
abbrev S2047x128 : Shape := ⟨2, ![2047, 128]⟩
abbrev S1x128 : Shape := ⟨2, ![1, 128]⟩
abbrev S2046x128 : Shape := ⟨2, ![2046, 128]⟩
abbrev S2x128 : Shape := ⟨2, ![2, 128]⟩
abbrev S2044x128 : Shape := ⟨2, ![2044, 128]⟩
abbrev S4x128 : Shape := ⟨2, ![4, 128]⟩
abbrev S128x2x8x128 : Shape := ⟨4, ![128, 2, 8, 128]⟩
abbrev S128x1x8x128 : Shape := ⟨4, ![128, 1, 8, 128]⟩
abbrev S128x8x128 : Shape := ⟨3, ![128, 8, 128]⟩
abbrev S64x2x16x128 : Shape := ⟨4, ![64, 2, 16, 128]⟩
abbrev S64x1x16x128 : Shape := ⟨4, ![64, 1, 16, 128]⟩
abbrev S64x16x128 : Shape := ⟨3, ![64, 16, 128]⟩
abbrev S32x2x32x128 : Shape := ⟨4, ![32, 2, 32, 128]⟩
abbrev S32x1x32x128 : Shape := ⟨4, ![32, 1, 32, 128]⟩
abbrev S32x32x128 : Shape := ⟨3, ![32, 32, 128]⟩
abbrev S16x2x64x128 : Shape := ⟨4, ![16, 2, 64, 128]⟩
abbrev S16x1x64x128 : Shape := ⟨4, ![16, 1, 64, 128]⟩
abbrev S16x64x128 : Shape := ⟨3, ![16, 64, 128]⟩
abbrev S8x2x128x128 : Shape := ⟨4, ![8, 2, 128, 128]⟩
abbrev S8x1x128x128 : Shape := ⟨4, ![8, 1, 128, 128]⟩
abbrev S8x128x128 : Shape := ⟨3, ![8, 128, 128]⟩
abbrev S4x2x256x128 : Shape := ⟨4, ![4, 2, 256, 128]⟩
abbrev S4x1x256x128 : Shape := ⟨4, ![4, 1, 256, 128]⟩
abbrev S4x256x128 : Shape := ⟨3, ![4, 256, 128]⟩
abbrev S2x2x512x128 : Shape := ⟨4, ![2, 2, 512, 128]⟩
abbrev S2x1x512x128 : Shape := ⟨4, ![2, 1, 512, 128]⟩
abbrev S2x512x128 : Shape := ⟨3, ![2, 512, 128]⟩
abbrev S1x2x1024x128 : Shape := ⟨4, ![1, 2, 1024, 128]⟩
abbrev S1x1x1024x128 : Shape := ⟨4, ![1, 1, 1024, 128]⟩
abbrev S1x1024x128 : Shape := ⟨3, ![1, 1024, 128]⟩
abbrev S128 : Shape := ⟨1, ![128]⟩

abbrev nBuf : Space → Nat
  | .hbm => 94
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x21, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S4x2048x1024, .f32⟩
  | .hbm, ⟨13, _⟩ => ⟨S2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048, .i32⟩
  | .hbm, ⟨24, _⟩ => ⟨S2048, .f32⟩
  | .hbm, ⟨25, _⟩ => ⟨S2048, .f32⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S2048x1, .i32⟩
  | .hbm, ⟨34, _⟩ => ⟨S1, .i32⟩
  | .hbm, ⟨35, _⟩ => ⟨S_, .i32⟩
  | .hbm, ⟨36, _⟩ => ⟨S2048x1, .i32⟩
  | .hbm, ⟨37, _⟩ => ⟨S2048x1, .i1⟩
  | .hbm, ⟨38, _⟩ => ⟨S1x1, .i32⟩
  | .hbm, ⟨39, _⟩ => ⟨S2048x1, .i32⟩
  | .hbm, ⟨40, _⟩ => ⟨S2048x1, .i1⟩
  | .hbm, ⟨41, _⟩ => ⟨S2048x1, .i1⟩
  | .hbm, ⟨42, _⟩ => ⟨S_, .i1⟩
  | .hbm, ⟨43, _⟩ => ⟨S2048, .i1⟩
  | .hbm, ⟨44, _⟩ => ⟨S1024x2048, .f32⟩
  | .hbm, ⟨45, _⟩ => ⟨S1024x2048, .i1⟩
  | .hbm, ⟨46, _⟩ => ⟨S_, .f32⟩
  | .hbm, ⟨47, _⟩ => ⟨S1024x2048, .f32⟩
  | .hbm, ⟨48, _⟩ => ⟨S1024x2048, .f32⟩
  | .hbm, ⟨49, _⟩ => ⟨S_, .i32⟩
  | .hbm, ⟨50, _⟩ => ⟨S2048, .i32⟩
  | .hbm, ⟨51, _⟩ => ⟨S2048, .i32⟩
  | .hbm, ⟨52, _⟩ => ⟨S_, .i32⟩
  | .hbm, ⟨53, _⟩ => ⟨S2048, .i32⟩
  | .hbm, ⟨54, _⟩ => ⟨S2048, .i32⟩
  | .hbm, ⟨55, _⟩ => ⟨S_, .i32⟩
  | .hbm, ⟨56, _⟩ => ⟨S2048, .i32⟩
  | .hbm, ⟨57, _⟩ => ⟨S2048, .i1⟩
  | .hbm, ⟨58, _⟩ => ⟨S_, .i32⟩
  | .hbm, ⟨59, _⟩ => ⟨S2048, .i32⟩
  | .hbm, ⟨60, _⟩ => ⟨S2048, .i32⟩
  | .hbm, ⟨61, _⟩ => ⟨S2048, .i32⟩
  | .hbm, ⟨62, _⟩ => ⟨S2048x1, .i32⟩
  | .hbm, ⟨63, _⟩ => ⟨S1, .i32⟩
  | .hbm, ⟨64, _⟩ => ⟨S_, .i32⟩
  | .hbm, ⟨65, _⟩ => ⟨S2048x1, .i32⟩
  | .hbm, ⟨66, _⟩ => ⟨S2048x1, .i1⟩
  | .hbm, ⟨67, _⟩ => ⟨S1x1, .i32⟩
  | .hbm, ⟨68, _⟩ => ⟨S2048x1, .i32⟩
  | .hbm, ⟨69, _⟩ => ⟨S2048x1, .i1⟩
  | .hbm, ⟨70, _⟩ => ⟨S2048x1, .i1⟩
  | .hbm, ⟨71, _⟩ => ⟨S_, .i1⟩
  | .hbm, ⟨72, _⟩ => ⟨S2048, .i1⟩
  | .hbm, ⟨73, _⟩ => ⟨S1024x2048, .f32⟩
  | .hbm, ⟨74, _⟩ => ⟨S1024x2048, .i1⟩
  | .hbm, ⟨75, _⟩ => ⟨S_, .f32⟩
  | .hbm, ⟨76, _⟩ => ⟨S1024x2048, .f32⟩
  | .hbm, ⟨77, _⟩ => ⟨S1024x2048, .f32⟩
  | .hbm, ⟨78, _⟩ => ⟨S_, .f32⟩
  | .hbm, ⟨79, _⟩ => ⟨S2048, .f32⟩
  | .hbm, ⟨80, _⟩ => ⟨S2048, .f32⟩
  | .hbm, ⟨81, _⟩ => ⟨S1x2048, .f32⟩
  | .hbm, ⟨82, _⟩ => ⟨S1024x2048, .f32⟩
  | .hbm, ⟨83, _⟩ => ⟨S1024x2048, .f32⟩
  | .hbm, ⟨84, _⟩ => ⟨S1x2048, .f32⟩
  | .hbm, ⟨85, _⟩ => ⟨S1024x2048, .f32⟩
  | .hbm, ⟨86, _⟩ => ⟨S1024x2048, .f32⟩
  | .hbm, ⟨87, _⟩ => ⟨S1024x2048, .f32⟩
  | .hbm, ⟨88, _⟩ => ⟨S2048x1024, .f32⟩
  | .hbm, ⟨89, _⟩ => ⟨S4x1x1024, .f32⟩
  | .hbm, ⟨90, _⟩ => ⟨S4x1024, .f32⟩
  | .hbm, ⟨91, _⟩ => ⟨S1x1024, .f32⟩
  | .hbm, ⟨92, _⟩ => ⟨S1x1024, .f32⟩
  | .hbm, ⟨93, _⟩ => ⟨S4x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x2048x128, .f32⟩
  | .local _ .vmem, ⟨9, _⟩ => ⟨S1x2048x128, .f32⟩
  | .local _ .vmem, ⟨10, _⟩ => ⟨S2048x128, .f32⟩
  | .local _ .vmem, ⟨11, _⟩ => ⟨S2048x128, .f32⟩
  | .local _ .vmem, ⟨12, _⟩ => ⟨S1x1x128, .f32⟩
  | .local _ .vmem, ⟨13, _⟩ => ⟨S1x1x128, .f32⟩
  | .local _ .vmem, ⟨14, _⟩ => ⟨S4x1024, .f32⟩
  | .local _ .vmem, ⟨15, _⟩ => ⟨S1024x1024, .f32⟩
  | .local _ .vmem, ⟨16, _⟩ => ⟨S1x1024, .f32⟩
  | .local _ .vmem, ⟨17, _⟩ => ⟨S1024x1024, .f32⟩
  | .local _ .vmem, ⟨18, _⟩ => ⟨S1x1024, .f32⟩
  | .local _ .vmem, ⟨19, _⟩ => ⟨S4x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_cst : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_call0_c : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_c_0 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_c_1 : Ref sig .tc := ⟨.hbm, 34, rfl⟩
abbrev main_call0_call0_c_2 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_call0_c_3 : Ref sig .tc := ⟨.hbm, 42, rfl⟩
abbrev main_call0_call0_v12 : Ref sig .tc := ⟨.hbm, 43, rfl⟩
abbrev main_call0_call0_v13 : Ref sig .tc := ⟨.hbm, 44, rfl⟩
abbrev main_call0_call0_v14 : Ref sig .tc := ⟨.hbm, 45, rfl⟩
abbrev main_call0_call0_cst : Ref sig .tc := ⟨.hbm, 46, rfl⟩
abbrev main_call0_call0_v15 : Ref sig .tc := ⟨.hbm, 47, rfl⟩
abbrev main_call0_v13 : Ref sig .tc := ⟨.hbm, 48, rfl⟩
abbrev main_call0_c : Ref sig .tc := ⟨.hbm, 49, rfl⟩
abbrev main_call0_v14 : Ref sig .tc := ⟨.hbm, 50, rfl⟩
abbrev main_call0_v15 : Ref sig .tc := ⟨.hbm, 51, rfl⟩
abbrev main_call0_c_2 : Ref sig .tc := ⟨.hbm, 52, rfl⟩
abbrev main_call0_v16 : Ref sig .tc := ⟨.hbm, 53, rfl⟩
abbrev main_call0_v17 : Ref sig .tc := ⟨.hbm, 54, rfl⟩
abbrev main_call0_call1_c : Ref sig .tc := ⟨.hbm, 55, rfl⟩
abbrev main_call0_call1_v0 : Ref sig .tc := ⟨.hbm, 56, rfl⟩
abbrev main_call0_call1_v1 : Ref sig .tc := ⟨.hbm, 57, rfl⟩
abbrev main_call0_call1_c_0 : Ref sig .tc := ⟨.hbm, 58, rfl⟩
abbrev main_call0_call1_v2 : Ref sig .tc := ⟨.hbm, 59, rfl⟩
abbrev main_call0_call1_v3 : Ref sig .tc := ⟨.hbm, 60, rfl⟩
abbrev main_call0_call1_v4 : Ref sig .tc := ⟨.hbm, 61, rfl⟩
abbrev main_call0_call1_v5 : Ref sig .tc := ⟨.hbm, 62, rfl⟩
abbrev main_call0_call1_c_1 : Ref sig .tc := ⟨.hbm, 63, rfl⟩
abbrev main_call0_call1_c_2 : Ref sig .tc := ⟨.hbm, 64, rfl⟩
abbrev main_call0_call1_v6 : Ref sig .tc := ⟨.hbm, 65, rfl⟩
abbrev main_call0_call1_v7 : Ref sig .tc := ⟨.hbm, 66, rfl⟩
abbrev main_call0_call1_v8 : Ref sig .tc := ⟨.hbm, 67, rfl⟩
abbrev main_call0_call1_v9 : Ref sig .tc := ⟨.hbm, 68, rfl⟩
abbrev main_call0_call1_v10 : Ref sig .tc := ⟨.hbm, 69, rfl⟩
abbrev main_call0_call1_v11 : Ref sig .tc := ⟨.hbm, 70, rfl⟩
abbrev main_call0_call1_c_3 : Ref sig .tc := ⟨.hbm, 71, rfl⟩
abbrev main_call0_call1_v12 : Ref sig .tc := ⟨.hbm, 72, rfl⟩
abbrev main_call0_call1_v13 : Ref sig .tc := ⟨.hbm, 73, rfl⟩
abbrev main_call0_call1_v14 : Ref sig .tc := ⟨.hbm, 74, rfl⟩
abbrev main_call0_call1_cst : Ref sig .tc := ⟨.hbm, 75, rfl⟩
abbrev main_call0_call1_v15 : Ref sig .tc := ⟨.hbm, 76, rfl⟩
abbrev main_call0_v18 : Ref sig .tc := ⟨.hbm, 77, rfl⟩
abbrev main_call0_cst_3 : Ref sig .tc := ⟨.hbm, 78, rfl⟩
abbrev main_call0_v19 : Ref sig .tc := ⟨.hbm, 79, rfl⟩
abbrev main_call0_v20 : Ref sig .tc := ⟨.hbm, 80, rfl⟩
abbrev main_call0_v21 : Ref sig .tc := ⟨.hbm, 81, rfl⟩
abbrev main_call0_v22 : Ref sig .tc := ⟨.hbm, 82, rfl⟩
abbrev main_call0_v23 : Ref sig .tc := ⟨.hbm, 83, rfl⟩
abbrev main_call0_v24 : Ref sig .tc := ⟨.hbm, 84, rfl⟩
abbrev main_call0_v25 : Ref sig .tc := ⟨.hbm, 85, rfl⟩
abbrev main_call0_v26 : Ref sig .tc := ⟨.hbm, 86, rfl⟩
abbrev main_call0_v27 : Ref sig .tc := ⟨.hbm, 87, rfl⟩
abbrev main_call0_v28 : Ref sig .tc := ⟨.hbm, 88, rfl⟩
abbrev main_call0_v29 : Ref sig .tc := ⟨.hbm, 89, rfl⟩
abbrev main_call0_v30 : Ref sig .tc := ⟨.hbm, 90, rfl⟩
abbrev main_call0_v31 : Ref sig .tc := ⟨.hbm, 91, rfl⟩
abbrev main_call0_v32 : Ref sig .tc := ⟨.hbm, 92, rfl⟩
abbrev main_v0 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := .none

abbrev stage2_0 : Fin 1 → Memref sig .tc .vmem S4x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1024x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S4x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1024x21 : Shape := ⟨2, ![1024, 21]⟩
abbrev S1x1x1024 : Shape := ⟨3, ![1, 1, 1024]⟩
abbrev S_ : Shape := ⟨0, ![]⟩
abbrev S4x1024x2048 : Shape := ⟨3, ![4, 1024, 2048]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S1024x2048 : Shape := ⟨2, ![1024, 2048]⟩
abbrev S1x2048 : Shape := ⟨2, ![1, 2048]⟩
abbrev S1x1024x2048 : Shape := ⟨3, ![1, 1024, 2048]⟩
abbrev S4x1024 : Shape := ⟨2, ![4, 1024]⟩
abbrev S1x1024 : Shape := ⟨2, ![1, 1024]⟩

abbrev nBuf : Space → Nat
  | .hbm => 116
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x21, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S4x2048x1024, .f32⟩
  | .hbm, ⟨11, _⟩ => ⟨S1x1x1024, .f32⟩
  | .hbm, ⟨12, _⟩ => ⟨S4x2048x1024, .f32⟩
  | .hbm, ⟨13, _⟩ => ⟨S4x2048x1024, .f32⟩
  | .hbm, ⟨14, _⟩ => ⟨S_, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x1024x2048, .f32⟩
  | .hbm, ⟨22, _⟩ => ⟨S4x1024x2048, .f32⟩
  | .hbm, ⟨23, _⟩ => ⟨S4x1024x2048, .f32⟩
  | .hbm, ⟨24, _⟩ => ⟨S4x1024x2048, .f32⟩
  | .hbm, ⟨25, _⟩ => ⟨S2048, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S2048, .i32⟩
  | .hbm, ⟨36, _⟩ => ⟨S2048, .f32⟩
  | .hbm, ⟨37, _⟩ => ⟨S2048, .f32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S2048x1, .i32⟩
  | .hbm, ⟨46, _⟩ => ⟨S1, .i32⟩
  | .hbm, ⟨47, _⟩ => ⟨S_, .i32⟩
  | .hbm, ⟨48, _⟩ => ⟨S2048x1, .i32⟩
  | .hbm, ⟨49, _⟩ => ⟨S2048x1, .i1⟩
  | .hbm, ⟨50, _⟩ => ⟨S1x1, .i32⟩
  | .hbm, ⟨51, _⟩ => ⟨S2048x1, .i32⟩
  | .hbm, ⟨52, _⟩ => ⟨S2048x1, .i1⟩
  | .hbm, ⟨53, _⟩ => ⟨S2048x1, .i1⟩
  | .hbm, ⟨54, _⟩ => ⟨S_, .i1⟩
  | .hbm, ⟨55, _⟩ => ⟨S2048, .i1⟩
  | .hbm, ⟨56, _⟩ => ⟨S1024x2048, .f32⟩
  | .hbm, ⟨57, _⟩ => ⟨S1024x2048, .i1⟩
  | .hbm, ⟨58, _⟩ => ⟨S_, .f32⟩
  | .hbm, ⟨59, _⟩ => ⟨S1024x2048, .f32⟩
  | .hbm, ⟨60, _⟩ => ⟨S1024x2048, .f32⟩
  | .hbm, ⟨61, _⟩ => ⟨S_, .i32⟩
  | .hbm, ⟨62, _⟩ => ⟨S2048, .i32⟩
  | .hbm, ⟨63, _⟩ => ⟨S2048, .i32⟩
  | .hbm, ⟨64, _⟩ => ⟨S_, .i32⟩
  | .hbm, ⟨65, _⟩ => ⟨S2048, .i32⟩
  | .hbm, ⟨66, _⟩ => ⟨S2048, .i32⟩
  | .hbm, ⟨67, _⟩ => ⟨S_, .i32⟩
  | .hbm, ⟨68, _⟩ => ⟨S2048, .i32⟩
  | .hbm, ⟨69, _⟩ => ⟨S2048, .i1⟩
  | .hbm, ⟨70, _⟩ => ⟨S_, .i32⟩
  | .hbm, ⟨71, _⟩ => ⟨S2048, .i32⟩
  | .hbm, ⟨72, _⟩ => ⟨S2048, .i32⟩
  | .hbm, ⟨73, _⟩ => ⟨S2048, .i32⟩
  | .hbm, ⟨74, _⟩ => ⟨S2048x1, .i32⟩
  | .hbm, ⟨75, _⟩ => ⟨S1, .i32⟩
  | .hbm, ⟨76, _⟩ => ⟨S_, .i32⟩
  | .hbm, ⟨77, _⟩ => ⟨S2048x1, .i32⟩
  | .hbm, ⟨78, _⟩ => ⟨S2048x1, .i1⟩
  | .hbm, ⟨79, _⟩ => ⟨S1x1, .i32⟩
  | .hbm, ⟨80, _⟩ => ⟨S2048x1, .i32⟩
  | .hbm, ⟨81, _⟩ => ⟨S2048x1, .i1⟩
  | .hbm, ⟨82, _⟩ => ⟨S2048x1, .i1⟩
  | .hbm, ⟨83, _⟩ => ⟨S_, .i1⟩
  | .hbm, ⟨84, _⟩ => ⟨S2048, .i1⟩
  | .hbm, ⟨85, _⟩ => ⟨S1024x2048, .f32⟩
  | .hbm, ⟨86, _⟩ => ⟨S1024x2048, .i1⟩
  | .hbm, ⟨87, _⟩ => ⟨S_, .f32⟩
  | .hbm, ⟨88, _⟩ => ⟨S1024x2048, .f32⟩
  | .hbm, ⟨89, _⟩ => ⟨S1024x2048, .f32⟩
  | .hbm, ⟨90, _⟩ => ⟨S_, .f32⟩
  | .hbm, ⟨91, _⟩ => ⟨S2048, .f32⟩
  | .hbm, ⟨92, _⟩ => ⟨S2048, .f32⟩
  | .hbm, ⟨93, _⟩ => ⟨S1x2048, .f32⟩
  | .hbm, ⟨94, _⟩ => ⟨S1024x2048, .f32⟩
  | .hbm, ⟨95, _⟩ => ⟨S1024x2048, .f32⟩
  | .hbm, ⟨96, _⟩ => ⟨S1x2048, .f32⟩
  | .hbm, ⟨97, _⟩ => ⟨S1024x2048, .f32⟩
  | .hbm, ⟨98, _⟩ => ⟨S1024x2048, .f32⟩
  | .hbm, ⟨99, _⟩ => ⟨S1024x2048, .f32⟩
  | .hbm, ⟨100, _⟩ => ⟨S1x1024x2048, .f32⟩
  | .hbm, ⟨101, _⟩ => ⟨S4x1024x2048, .f32⟩
  | .hbm, ⟨102, _⟩ => ⟨S4x1024x2048, .f32⟩
  | .hbm, ⟨103, _⟩ => ⟨S_, .f32⟩
  | .hbm, ⟨104, _⟩ => ⟨S4x1024, .f32⟩
  | .hbm, ⟨105, _⟩ => ⟨S4x1024, .f32⟩
  | .hbm, ⟨106, _⟩ => ⟨S1x1024, .f32⟩
  | .hbm, ⟨107, _⟩ => ⟨S4x1024, .f32⟩
  | .hbm, ⟨108, _⟩ => ⟨S4x1024, .f32⟩
  | .hbm, ⟨109, _⟩ => ⟨S_, .f32⟩
  | .hbm, ⟨110, _⟩ => ⟨S4x1024, .f32⟩
  | .hbm, ⟨111, _⟩ => ⟨S4x1024, .f32⟩
  | .hbm, ⟨112, _⟩ => ⟨S4x1024, .f32⟩
  | .hbm, ⟨113, _⟩ => ⟨S1x1024, .f32⟩
  | .hbm, ⟨114, _⟩ => ⟨S4x1024, .f32⟩
  | .hbm, ⟨115, _⟩ => ⟨S4x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call2_c : Ref sig .tc := ⟨.hbm, 38, rfl⟩
abbrev main_call2_v0 : Ref sig .tc := ⟨.hbm, 39, rfl⟩
abbrev main_call2_v1 : Ref sig .tc := ⟨.hbm, 40, rfl⟩
abbrev main_call2_c_0 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_c_1 : Ref sig .tc := ⟨.hbm, 46, rfl⟩
abbrev main_call2_c_2 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_3 : Ref sig .tc := ⟨.hbm, 54, rfl⟩
abbrev main_call2_v12 : Ref sig .tc := ⟨.hbm, 55, rfl⟩
abbrev main_call2_v13 : Ref sig .tc := ⟨.hbm, 56, rfl⟩
abbrev main_call2_v14 : Ref sig .tc := ⟨.hbm, 57, rfl⟩
abbrev main_call2_cst : Ref sig .tc := ⟨.hbm, 58, rfl⟩
abbrev main_call2_v15 : Ref sig .tc := ⟨.hbm, 59, rfl⟩
abbrev main_v23 : Ref sig .tc := ⟨.hbm, 60, rfl⟩
abbrev main_c : Ref sig .tc := ⟨.hbm, 61, rfl⟩
abbrev main_v24 : Ref sig .tc := ⟨.hbm, 62, rfl⟩
abbrev main_v25 : Ref sig .tc := ⟨.hbm, 63, rfl⟩
abbrev main_c_2 : Ref sig .tc := ⟨.hbm, 64, rfl⟩
abbrev main_v26 : Ref sig .tc := ⟨.hbm, 65, rfl⟩
abbrev main_v27 : Ref sig .tc := ⟨.hbm, 66, rfl⟩
abbrev main_call3_c : Ref sig .tc := ⟨.hbm, 67, rfl⟩
abbrev main_call3_v0 : Ref sig .tc := ⟨.hbm, 68, rfl⟩
abbrev main_call3_v1 : Ref sig .tc := ⟨.hbm, 69, rfl⟩
abbrev main_call3_c_0 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_c_1 : Ref sig .tc := ⟨.hbm, 75, rfl⟩
abbrev main_call3_c_2 : Ref sig .tc := ⟨.hbm, 76, rfl⟩
abbrev main_call3_v6 : Ref sig .tc := ⟨.hbm, 77, rfl⟩
abbrev main_call3_v7 : Ref sig .tc := ⟨.hbm, 78, rfl⟩
abbrev main_call3_v8 : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_3 : Ref sig .tc := ⟨.hbm, 83, rfl⟩
abbrev main_call3_v12 : Ref sig .tc := ⟨.hbm, 84, rfl⟩
abbrev main_call3_v13 : Ref sig .tc := ⟨.hbm, 85, rfl⟩
abbrev main_call3_v14 : Ref sig .tc := ⟨.hbm, 86, rfl⟩
abbrev main_call3_cst : Ref sig .tc := ⟨.hbm, 87, rfl⟩
abbrev main_call3_v15 : Ref sig .tc := ⟨.hbm, 88, rfl⟩
abbrev main_v28 : Ref sig .tc := ⟨.hbm, 89, rfl⟩
abbrev main_cst_3 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_cst_4 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_call4_cst : Ref sig .tc := ⟨.hbm, 109, rfl⟩
abbrev main_call4_v0 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩

abbrev nD : Nat := 1
abbrev τ : Topo := Topo.v7x

variable {F : FTy → Type} [FloatOps F]
-- ==== Proof.SortStages.lean ====
/- The words in which the sorting kernel's body is read: one stage of compare and exchange between rows a power of two
   apart, as the body writes it for small distances (two shifted copies and a choice) and for distances of eight rows or
   more (a reshape that sets the two partners side by side), and the change of sign of whole runs of rows that turns a
   falling run into a rising one. -/
module

public import proofs.«01_k».proof.Proof.Gen.KernelIdeal.Skeleton

@[expose] public section

noncomputable section

namespace Cert.SortPool

open Idealize.ShloMosaic Idealize.SL.Sem Cert.KernelIdeal Cert.KernelIdeal.Gen

variable {F : FTy → Type} [FloatOps F]

/-- A block of rows: 2048 of them, 128 columns. -/
abbrev Rows (F : FTy → Type) [FloatOps F] := FVec F S2048x128 .f32

/-- Every row's own number. -/
def rowIx : IVec S2048x1 32 := iota .tc S2048x1 32 [0] iota_S2048x1_d0_w32

/-- Where the row's number has the bit `w` clear. -/
def clear (w : BitVec 32) : IVec S2048x1 1 := cmpi .eq (andi rowIx (broadcast S2048x1 w)) (broadcast S2048x1 0#32)

/-- A choice per row, made for every column. -/
def wide (m : IVec S2048x1 1) : IVec S2048x128 1 :=
  broadcastTo S2048x128 (shapeCast S2048x1 m shapeCasts_S2048x1_S2048x1) broadcasts_S2048x1_S2048x128

/-- One where the bit is clear, minus one where it is set. -/
def signs (w : BitVec 32) : FVec F S2048x1 .f32 :=
  select (clear w) (broadcast S2048x1 (Scalar.ofBits .f32 0x3F800000#32)) (broadcast S2048x1 (Scalar.ofBits .f32 0xBF800000#32))

/-- The rows times their signs. -/
def flip (w : BitVec 32) (g : Rows F) : Rows F := mulf g (broadcastTo S2048x128 (signs w) broadcasts_S2048x1_S2048x128)

/-- The rows from `d` on, followed by the first `d`; `e` is what is left of 2048. -/
def down (d e : Nat) (h1 : S2048x128.Slices ![d, 0] ⟨2, ![e, 128]⟩) (h2 : S2048x128.Slices ![0, 0] ⟨2, ![d, 128]⟩)
    (hc : Shape.Concatenates [⟨2, ![e, 128]⟩, ⟨2, ![d, 128]⟩] S2048x128 0) (g : Rows F) : Rows F :=
  concatenate S2048x128 0 [⟨⟨2, ![e, 128]⟩, extractStridedSlice ⟨2, ![e, 128]⟩ ![d, 0] g h1⟩,
    ⟨⟨2, ![d, 128]⟩, extractStridedSlice ⟨2, ![d, 128]⟩ ![0, 0] g h2⟩] hc

/-- The smaller of a row and its partner where the bit is clear, the greater where it is set. -/
def exchange (w : BitVec 32) (g p : Rows F) : Rows F := select (wide (clear w)) (minimumf g p) (maximumf g p)

/-- Each row's partner: `d` below it where the bit is clear, `d` above it where it is set. -/
def partners (w : BitVec 32) (dn up : Rows F) : Rows F := select (wide (clear w)) dn up

/-- A stage at a small distance. -/
def near (d e : Nat) (w : BitVec 32) (h1 : S2048x128.Slices ![d, 0] ⟨2, ![e, 128]⟩) (h2 : S2048x128.Slices ![0, 0] ⟨2, ![d, 128]⟩)
    (h3 : S2048x128.Slices ![e, 0] ⟨2, ![d, 128]⟩) (h4 : S2048x128.Slices ![0, 0] ⟨2, ![e, 128]⟩)
    (hc : Shape.Concatenates [⟨2, ![e, 128]⟩, ⟨2, ![d, 128]⟩] S2048x128 0)
    (hc' : Shape.Concatenates [⟨2, ![d, 128]⟩, ⟨2, ![e, 128]⟩] S2048x128 0) (g : Rows F) : Rows F :=
  exchange w g (partners w (down d e h1 h2 hc g) (down e d h3 h4 hc' g))

/-- The rows of one half of every pair of runs. -/
def half (m d o : Nat) (hs : Shape.Slices ⟨4, ![m, 2, d, 128]⟩ ![0, o, 0, 0] ⟨4, ![m, 1, d, 128]⟩)
    (hc : Shape.ShapeCasts ⟨4, ![m, 1, d, 128]⟩ ⟨3, ![m, d, 128]⟩) (x : FVec F ⟨4, ![m, 2, d, 128]⟩ .f32) :
    FVec F ⟨3, ![m, d, 128]⟩ .f32 :=
  shapeCast ⟨3, ![m, d, 128]⟩ (extractStridedSlice ⟨4, ![m, 1, d, 128]⟩ ![0, o, 0, 0] x hs) hc

/-- A stage at a distance of eight rows or more: `m` pairs of runs of `d` rows. -/
def far (m d : Nat) (hi : Shape.ShapeCasts S2048x128 ⟨4, ![m, 2, d, 128]⟩)
    (h0 : Shape.Slices ⟨4, ![m, 2, d, 128]⟩ ![0, 0, 0, 0] ⟨4, ![m, 1, d, 128]⟩)
    (h1 : Shape.Slices ⟨4, ![m, 2, d, 128]⟩ ![0, 1, 0, 0] ⟨4, ![m, 1, d, 128]⟩)
    (hd : Shape.ShapeCasts ⟨4, ![m, 1, d, 128]⟩ ⟨3, ![m, d, 128]⟩)
    (hu : Shape.ShapeCasts ⟨3, ![m, d, 128]⟩ ⟨4, ![m, 1, d, 128]⟩)
    (hc : Shape.Concatenates [⟨4, ![m, 1, d, 128]⟩, ⟨4, ![m, 1, d, 128]⟩] ⟨4, ![m, 2, d, 128]⟩ 1)
    (ho : Shape.ShapeCasts ⟨4, ![m, 2, d, 128]⟩ S2048x128) (g : Rows F) : Rows F :=
  shapeCast S2048x128 (concatenate ⟨4, ![m, 2, d, 128]⟩ 1
    [⟨⟨4, ![m, 1, d, 128]⟩, shapeCast ⟨4, ![m, 1, d, 128]⟩
        (minimumf (half m d 0 h0 hd (shapeCast _ g hi)) (half m d 1 h1 hd (shapeCast _ g hi))) hu⟩,
      ⟨⟨4, ![m, 1, d, 128]⟩, shapeCast ⟨4, ![m, 1, d, 128]⟩
        (maximumf (half m d 0 h0 hd (shapeCast _ g hi)) (half m d 1 h1 hd (shapeCast _ g hi))) hu⟩] hc) ho

/-! ## The eleven distances -/

def c1 (g : Rows F) : Rows F := near 1 2047 1#32 (by decide) (by decide) (by decide) (by decide) (by decide) (by decide) g
def c2 (g : Rows F) : Rows F := near 2 2046 2#32 (by decide) (by decide) (by decide) (by decide) (by decide) (by decide) g
def c4 (g : Rows F) : Rows F := near 4 2044 4#32 (by decide) (by decide) (by decide) (by decide) (by decide) (by decide) g
def c8 (g : Rows F) : Rows F := far 128 8 (by decide) (by decide) (by decide) (by decide) (by decide) (by decide) (by decide) g
def c16 (g : Rows F) : Rows F := far 64 16 (by decide) (by decide) (by decide) (by decide) (by decide) (by decide) (by decide) g
def c32 (g : Rows F) : Rows F := far 32 32 (by decide) (by decide) (by decide) (by decide) (by decide) (by decide) (by decide) g
def c64 (g : Rows F) : Rows F := far 16 64 (by decide) (by decide) (by decide) (by decide) (by decide) (by decide) (by decide) g
def c128 (g : Rows F) : Rows F := far 8 128 (by decide) (by decide) (by decide) (by decide) (by decide) (by decide) (by decide) g
def c256 (g : Rows F) : Rows F := far 4 256 (by decide) (by decide) (by decide) (by decide) (by decide) (by decide) (by decide) g
def c512 (g : Rows F) : Rows F := far 2 512 (by decide) (by decide) (by decide) (by decide) (by decide) (by decide) (by decide) g
def c1024 (g : Rows F) : Rows F := far 1 1024 (by decide) (by decide) (by decide) (by decide) (by decide) (by decide) (by decide) g

/-! ## The eleven levels -/

/-- The last stages of every level of eight rows or more, and so on upwards. -/
def low3 (g : Rows F) : Rows F := c1 (c2 (c4 g))
def low6 (g : Rows F) : Rows F := low3 (c8 (c16 (c32 g)))
def low10 (g : Rows F) : Rows F := low6 (c64 (c128 (c256 (c512 g))))

/-- The rows with their sign changed: nought minus each. -/
def negRows (x : Vec F S1x2048x128 .f32) : Rows F :=
  subf (broadcast S2048x128 (Scalar.ofBits .f32 0x00000000#32)) (shapeCast S2048x128 x shapeCasts_S1x2048x128_S2048x128)

/-- A level: the signs of the falling runs changed, the stages, and the signs changed back. -/
def lv1 (g : Rows F) : Rows F := flip 2#32 (c1 (flip 2#32 g))
def lv2 (g : Rows F) : Rows F := flip 4#32 (c1 (c2 (flip 4#32 g)))
def lv3 (g : Rows F) : Rows F := flip 8#32 (low3 (flip 8#32 g))
def lv4 (g : Rows F) : Rows F := flip 16#32 (low3 (c8 (flip 16#32 g)))
def lv5 (g : Rows F) : Rows F := flip 32#32 (low3 (c8 (c16 (flip 32#32 g))))
def lv6 (g : Rows F) : Rows F := flip 64#32 (low6 (flip 64#32 g))
def lv7 (g : Rows F) : Rows F := flip 128#32 (low6 (c64 (flip 128#32 g)))
def lv8 (g : Rows F) : Rows F := flip 256#32 (low6 (c64 (c128 (flip 256#32 g))))
def lv9 (g : Rows F) : Rows F := flip 512#32 (low6 (c64 (c128 (c256 (flip 512#32 g)))))
def lv10 (g : Rows F) : Rows F := flip 1024#32 (low10 (flip 1024#32 g))

/-- The last level changes no sign. -/
def lv11 (g : Rows F) : Rows F := low10 (c1024 g)

/-- All the stages, in order. -/
def sorted (g : Rows F) : Rows F :=
  lv11 (lv10 (lv9 (lv8 (lv7 (lv6 (lv5 (lv4 (lv3 (lv2 (lv1 g))))))))))

/-- What the body stores: nought minus the sum over the rows of the sorted rows times the weights. -/
def pooled (x : Vec F S1x2048x128 .f32) (wt : Vec F S2048x128 .f32) : FVec F S128 .f32 :=
  subf (broadcast S128 (Scalar.ofBits .f32 0x00000000#32))
    (multiReduction .add [0] S128 (mulf (sorted (negRows x)) (shapeCast S2048x128 wt shapeCasts_S2048x128_S2048x128)) 0x00000000#32
      reduces_S2048x128_S128 (.inl rfl) rfl)

end Cert.SortPool

end
-- ==== Proof.SortText.lean ====
/- The printed body of the sorting kernel, window by window: each window is a run of the stages of SortStages.lean, and the
   whole is `pooled`. Every equation holds by unfolding. -/
module

public import proofs.«01_k».proof.Proof.SortStages

@[expose] public section

set_option maxRecDepth 16384

noncomputable section

namespace Cert.SortPool

open Idealize.ShloMosaic Idealize.SL.Sem Cert.KernelIdeal Cert.KernelIdeal.Gen

variable {F : FTy → Type} [FloatOps F]

/-- The rows set in pairs of runs, as a window hands them on; and the first run of each pair. -/
def inPairs (m d : Nat) (hi : Shape.ShapeCasts S2048x128 ⟨4, ![m, 2, d, 128]⟩) (g : Rows F) : FVec F ⟨4, ![m, 2, d, 128]⟩ .f32 :=
  shapeCast _ g hi

def firsts (m d : Nat) (hs : Shape.Slices ⟨4, ![m, 2, d, 128]⟩ ![0, 0, 0, 0] ⟨4, ![m, 1, d, 128]⟩)
    (x : FVec F ⟨4, ![m, 2, d, 128]⟩ .f32) : FVec F ⟨4, ![m, 1, d, 128]⟩ .f32 := extractStridedSlice _ ![0, 0, 0, 0] x hs

abbrev p8 (g : Rows F) := inPairs 128 8 (by decide) g
abbrev f8 (g : Rows F) := firsts 128 8 (by decide) (p8 g)
abbrev p16 (g : Rows F) := inPairs 64 16 (by decide) g
abbrev f16 (g : Rows F) := firsts 64 16 (by decide) (p16 g)
abbrev p32 (g : Rows F) := inPairs 32 32 (by decide) g
abbrev f32 (g : Rows F) := firsts 32 32 (by decide) (p32 g)
abbrev p64 (g : Rows F) := inPairs 16 64 (by decide) g
abbrev f64 (g : Rows F) := firsts 16 64 (by decide) (p64 g)
abbrev p512 (g : Rows F) := inPairs 2 512 (by decide) g
abbrev f512 (g : Rows F) := firsts 2 512 (by decide) (p512 g)

/-! ## The windows -/

/-- Windows one to five: four levels, and the fifth begun. -/
theorem win5 (g : Rows F) : k1_pay17 rowIx (k1_pay11 rowIx) (k1_pay12 rowIx g) (k1_pay13 rowIx g) (k1_pay14 rowIx g) (k1_pay15 rowIx)
    = p8 (c16 (flip 32#32 (lv4 g))) := rfl
theorem win5' (g : Rows F) : k1_pay18 rowIx (k1_pay11 rowIx) (k1_pay12 rowIx g) (k1_pay13 rowIx g) (k1_pay14 rowIx g) (k1_pay15 rowIx)
    = f8 (c16 (flip 32#32 (lv4 g))) := rfl

/-- Windows six and seven, and eight and nine. -/
theorem win7 (g : Rows F) : k1_pay23 rowIx (k1_pay16 rowIx) (k1_pay19 rowIx (p8 g) (f8 g)) (k1_pay20 rowIx (p8 g) (f8 g)) (k1_pay21 rowIx (p8 g) (f8 g)) 1#32
    = p8 (c16 (c32 (flip 64#32 (flip 32#32 (low3 (c8 g)))))) := rfl
theorem win7' (g : Rows F) : k1_pay24 rowIx (k1_pay16 rowIx) (k1_pay19 rowIx (p8 g) (f8 g)) (k1_pay20 rowIx (p8 g) (f8 g)) (k1_pay21 rowIx (p8 g) (f8 g)) 1#32
    = f8 (c16 (c32 (flip 64#32 (flip 32#32 (low3 (c8 g)))))) := rfl
theorem win9 (g : Rows F) : k1_pay29 rowIx (k1_pay22 rowIx) (k1_pay25 rowIx (p8 g) (f8 g)) (k1_pay26 rowIx (p8 g) (f8 g)) (k1_pay27 rowIx (p8 g) (f8 g)) 1#32
    = p16 (c32 (c64 (flip 128#32 (flip 64#32 (low3 (c8 g)))))) := rfl
theorem win9' (g : Rows F) : k1_pay30 rowIx (k1_pay22 rowIx) (k1_pay25 rowIx (p8 g) (f8 g)) (k1_pay26 rowIx (p8 g) (f8 g)) (k1_pay27 rowIx (p8 g) (f8 g)) 1#32
    = f16 (c32 (c64 (flip 128#32 (flip 64#32 (low3 (c8 g)))))) := rfl
theorem win11 (g : Rows F) : k1_pay36 rowIx (k1_pay28 rowIx) (k1_pay31 rowIx (p16 g) (f16 g)) (k1_pay32 rowIx (p16 g) (f16 g)) (k1_pay33 rowIx (p16 g) (f16 g)) (k1_pay34 rowIx)
    = p64 (c128 (flip 256#32 (flip 128#32 (low3 (c8 (c16 g)))))) := rfl
theorem win11' (g : Rows F) : k1_pay37 rowIx (k1_pay28 rowIx) (k1_pay31 rowIx (p16 g) (f16 g)) (k1_pay32 rowIx (p16 g) (f16 g)) (k1_pay33 rowIx (p16 g) (f16 g)) (k1_pay34 rowIx)
    = f64 (c128 (flip 256#32 (flip 128#32 (low3 (c8 (c16 g)))))) := rfl
theorem win13 (g : Rows F) : k1_pay41 rowIx (k1_pay35 rowIx) (k1_pay38 (p64 g) (f64 g)) (k1_pay39 (p64 g) (f64 g)) (k1_pay40 (p64 g) (f64 g))
    = flip 256#32 (low6 (c64 g)) := rfl
theorem win14 (g : Rows F) : k1_pay43 rowIx g = p32 (c64 (c128 (c256 (flip 512#32 g)))) := rfl
theorem win14' (g : Rows F) : k1_pay44 rowIx g = f32 (c64 (c128 (c256 (flip 512#32 g)))) := rfl
theorem win16 (g : Rows F) : k1_pay51 rowIx (k1_pay42 rowIx) (k1_pay46 rowIx) (k1_pay48 rowIx (p32 g) (f32 g)) (k1_pay49 rowIx (p32 g) (f32 g))
    = p512 (flip 1024#32 (flip 512#32 (low6 g))) := rfl
theorem win16' (g : Rows F) : k1_pay52 rowIx (k1_pay42 rowIx) (k1_pay46 rowIx) (k1_pay48 rowIx (p32 g) (f32 g)) (k1_pay49 rowIx (p32 g) (f32 g))
    = f512 (flip 1024#32 (flip 512#32 (low6 g))) := rfl
theorem win17 (g : Rows F) : k1_pay53 (p512 g) (f512 g) = p32 (c64 (c128 (c256 (c512 g)))) := rfl
theorem win17' (g : Rows F) : k1_pay54 (p512 g) (f512 g) = f32 (c64 (c128 (c256 (c512 g)))) := rfl
theorem win19 (g : Rows F) : k1_pay60 rowIx (k1_pay50 rowIx) (k1_pay56 rowIx) (k1_pay58 rowIx (p32 g) (f32 g)) (k1_pay59 rowIx (p32 g) (f32 g))
    = c1024 (flip 1024#32 (low6 g)) := rfl
theorem win20 (g : Rows F) : k1_pay61 g = c64 (c128 (c256 (c512 g))) := rfl
theorem win22 (g : Rows F) (wt : Vec F S2048x128 .f32) :
    k1_pay65 rowIx (k1_pay62 g) (k1_pay63 rowIx) (k1_pay64 rowIx g) wt
      = subf (broadcast S128 (Scalar.ofBits .f32 0x00000000#32))
          (multiReduction .add [0] S128 (mulf (low6 g) (shapeCast S2048x128 wt shapeCasts_S2048x128_S2048x128)) 0x00000000#32
            reduces_S2048x128_S128 (.inl rfl) rfl) := rfl

/-! ## The whole body, from the block and the weights it loads -/

variable (x : Vec F S1x2048x128 .f32) (wt : Vec F S2048x128 .f32)

def s3 : Rows F := k1_pay10 rowIx (k1_pay6 rowIx) (k1_pay7 rowIx (k1_pay2 x) k1_pay3 k1_pay4 k1_pay5)
  (k1_pay8 rowIx (k1_pay2 x) k1_pay3 k1_pay4 k1_pay5) (k1_pay9 rowIx (k1_pay2 x) k1_pay3 k1_pay4 k1_pay5)
def s5 : FVec F S128x2x8x128 .f32 := k1_pay17 rowIx (k1_pay11 rowIx) (k1_pay12 rowIx (s3 x)) (k1_pay13 rowIx (s3 x)) (k1_pay14 rowIx (s3 x)) (k1_pay15 rowIx)
def s5' : FVec F S128x1x8x128 .f32 := k1_pay18 rowIx (k1_pay11 rowIx) (k1_pay12 rowIx (s3 x)) (k1_pay13 rowIx (s3 x)) (k1_pay14 rowIx (s3 x)) (k1_pay15 rowIx)
def s7 : FVec F S128x2x8x128 .f32 := k1_pay23 rowIx (k1_pay16 rowIx) (k1_pay19 rowIx (s5 x) (s5' x)) (k1_pay20 rowIx (s5 x) (s5' x)) (k1_pay21 rowIx (s5 x) (s5' x)) 1#32
def s7' : FVec F S128x1x8x128 .f32 := k1_pay24 rowIx (k1_pay16 rowIx) (k1_pay19 rowIx (s5 x) (s5' x)) (k1_pay20 rowIx (s5 x) (s5' x)) (k1_pay21 rowIx (s5 x) (s5' x)) 1#32
def s9 : FVec F S64x2x16x128 .f32 := k1_pay29 rowIx (k1_pay22 rowIx) (k1_pay25 rowIx (s7 x) (s7' x)) (k1_pay26 rowIx (s7 x) (s7' x)) (k1_pay27 rowIx (s7 x) (s7' x)) 1#32
def s9' : FVec F S64x1x16x128 .f32 := k1_pay30 rowIx (k1_pay22 rowIx) (k1_pay25 rowIx (s7 x) (s7' x)) (k1_pay26 rowIx (s7 x) (s7' x)) (k1_pay27 rowIx (s7 x) (s7' x)) 1#32
def s11 : FVec F S16x2x64x128 .f32 := k1_pay36 rowIx (k1_pay28 rowIx) (k1_pay31 rowIx (s9 x) (s9' x)) (k1_pay32 rowIx (s9 x) (s9' x)) (k1_pay33 rowIx (s9 x) (s9' x)) (k1_pay34 rowIx)
def s11' : FVec F S16x1x64x128 .f32 := k1_pay37 rowIx (k1_pay28 rowIx) (k1_pay31 rowIx (s9 x) (s9' x)) (k1_pay32 rowIx (s9 x) (s9' x)) (k1_pay33 rowIx (s9 x) (s9' x)) (k1_pay34 rowIx)
def s13 : Rows F := k1_pay41 rowIx (k1_pay35 rowIx) (k1_pay38 (s11 x) (s11' x)) (k1_pay39 (s11 x) (s11' x)) (k1_pay40 (s11 x) (s11' x))
def s16 : FVec F S2x2x512x128 .f32 := k1_pay51 rowIx (k1_pay42 rowIx) (k1_pay46 rowIx) (k1_pay48 rowIx (k1_pay43 rowIx (s13 x)) (k1_pay44 rowIx (s13 x)))
  (k1_pay49 rowIx (k1_pay43 rowIx (s13 x)) (k1_pay44 rowIx (s13 x)))
def s16' : FVec F S2x1x512x128 .f32 := k1_pay52 rowIx (k1_pay42 rowIx) (k1_pay46 rowIx) (k1_pay48 rowIx (k1_pay43 rowIx (s13 x)) (k1_pay44 rowIx (s13 x)))
  (k1_pay49 rowIx (k1_pay43 rowIx (s13 x)) (k1_pay44 rowIx (s13 x)))
def s19 : Rows F := k1_pay60 rowIx (k1_pay50 rowIx) (k1_pay56 rowIx)
  (k1_pay58 rowIx (k1_pay53 (s16 x) (s16' x)) (k1_pay54 (s16 x) (s16' x))) (k1_pay59 rowIx (k1_pay53 (s16 x) (s16' x)) (k1_pay54 (s16 x) (s16' x)))
def s20 : Rows F := k1_pay61 (s19 x)
def s22 : FVec F S128 .f32 := k1_pay65 rowIx (k1_pay62 (s20 x)) (k1_pay63 rowIx) (k1_pay64 rowIx (s20 x)) wt

theorem s3_eq : s3 x = lv3 (lv2 (lv1 (negRows x))) := rfl

theorem s22_eq : s22 x wt = pooled x wt := by
  unfold s22 s20 s19 s16 s16' s13 s11 s11' s9 s9' s7 s7' s5 s5'
  rw [s3_eq, win5, win5', win7, win7', win9, win9', win11, win11', win13, win14, win14', win16, win16', win17, win17', win19, win20, win22]
  rfl

end Cert.SortPool

end
-- ==== Proof.SortOut.lean ====
/- What the sorting kernel's body leaves in its output block: the pooled block of SortText.lean, of the block and the weights
   it loads whole. -/
module

public import proofs.«01_k».proof.Proof.SortText
public import proofs.«01_k».proof.Proof.Gen.KernelIdeal.Frame
public import Idealize.ShloMosaic.Lib.Pipeline.Value

@[expose] public section

set_option maxRecDepth 16384

noncomputable section

namespace Cert.SortPool

open Idealize.ShloMosaic Idealize.SL.Sem Cert.KernelIdeal Cert.KernelIdeal.Gen

variable {F : FTy → Type} [FloatOps F]

theorem offsets2 : (![0, 0] : Fin 2 → Nat) = fun _ => 0 := funext fun a => by fin_cases a <;> rfl
theorem offsets3 : (![0, 0, 0] : Fin 3 → Nat) = fun _ => 0 := funext fun a => by fin_cases a <;> rfl

variable (c : Dev nD) (i : grid1.Coords) (arg2 : Memref sig .tc .vmem S1x2048x128 .f32) (harg2 : arg2.IsWhole)
  (arg3 : Memref sig .tc .vmem S2048x128 .f32) (harg3 : arg3.IsWhole) (arg4 : Memref sig .tc .vmem S1x1x128 .f32) (harg4 : arg4.IsWhole)
  (x0 : Vec F S1x2048x128 .f32) (x1 : Vec F S2048x128 .f32)

/-- The block is loaded whole. -/
theorem load_block : kernelRun1_A.sl.v1 c arg2 harg2 x0 = x0 := by
  funext y
  refine (congrFun (harg2.read_unread x0) _).trans (congrArg x0 ?_)
  funext a
  apply Fin.ext
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

theorem run_eq : kernelRun1_A.sl.r_43 c arg2 harg2 arg3 harg3 x0 x1 = pooled x0 x1 := by
  have e3 : kernelRun1_A.sl.r_4 c arg2 harg2 x0 = lv3 (lv2 (lv1 (negRows x0))) := by
    refine Eq.trans ?_ (s3_eq x0)
    unfold kernelRun1_A.sl.r_4 kernelRun1_A.sl.r_1 kernelRun1_A.sl.r_2 kernelRun1_A.sl.r_3 kernelRun1_A.sl.r s3
    rw [load_block]
    rfl
  unfold kernelRun1_A.sl.r_43 kernelRun1_A.sl.r_42 kernelRun1_A.sl.r_41 kernelRun1_A.sl.r_40 kernelRun1_A.sl.r_39 kernelRun1_A.sl.r_38 kernelRun1_A.sl.r_37 kernelRun1_A.sl.r_36 kernelRun1_A.sl.r_35 kernelRun1_A.sl.r_34
    kernelRun1_A.sl.r_33 kernelRun1_A.sl.r_32 kernelRun1_A.sl.r_31 kernelRun1_A.sl.r_30 kernelRun1_A.sl.r_29 kernelRun1_A.sl.r_28 kernelRun1_A.sl.r_27 kernelRun1_A.sl.r_26 kernelRun1_A.sl.r_25 kernelRun1_A.sl.r_24
    kernelRun1_A.sl.r_23 kernelRun1_A.sl.r_22 kernelRun1_A.sl.r_21 kernelRun1_A.sl.r_20 kernelRun1_A.sl.r_19 kernelRun1_A.sl.r_18 kernelRun1_A.sl.r_17 kernelRun1_A.sl.r_16 kernelRun1_A.sl.r_15 kernelRun1_A.sl.r_14
    kernelRun1_A.sl.r_13 kernelRun1_A.sl.r_12 kernelRun1_A.sl.r_11 kernelRun1_A.sl.r_10 kernelRun1_A.sl.r_9 kernelRun1_A.sl.r_8 kernelRun1_A.sl.r_7 kernelRun1_A.sl.r_6 kernelRun1_A.sl.r_5
  rw [show kernelRun1_A.sl.v5 = rowIx from rfl, e3, win5, win5', win7, win7', win9, win9', win11, win11', win13, win14, win14', win16, win16',
    win17, win17', win19, win20, win22]
  rw [View.readAt_eq_ld, harg3.read_unread, View.ld_unit_zero offsets2]
  rfl

/-- The body's one store fills its output block. -/
theorem out_eq : out1_A_2 c i arg2 harg2 arg3 harg3 arg4 harg4 x0 x1 = k1_pay1 (pooled x0 x1) := by
  unfold out1_A_2
  rw [View.read_writes_junk_eq_canon]
  show View.canon ([⟨Rect.unit ![0, 0, 0] ![1, 1, 128] inb_S1x1x128_S1x1x128_0_0_0,
      k1_pay1 (kernelRun1_A.sl.r_43 c arg2 harg2 arg3 harg3 x0 x1)⟩] : List (View.Piece (Elt F) S1x1x128 .f32)) = _
  rw [run_eq]
  exact View.canon_unit_zero (S := S1x1x128) offsets3 _ _

end Cert.SortPool

end
-- ==== Proof.Layers.lean ====
/- The two-layer networks read at one entry, over the extended reals: entry `c` of a row `x` is
   `∑ k, max (∑ j, x j * w1 j k + b1 k) 0 * w2 k c + b2 c`, for the network that runs row block by row block before the
   sorting and for the one that runs once after it. -/
module

public import proofs.«01_k».proof.Proof.Gen.KernelIdeal.Skeleton
public import Idealize.ShloMosaic.Lib.Pointwise
public import Idealize.ShloMosaic.Lib.Tactic

@[expose] public section

set_option maxRecDepth 16384

noncomputable section

namespace Cert.SortPool

open Idealize.ShloMosaic Cert.KernelIdeal Cert.KernelIdeal.Gen

/-- Entry `c` of a two-layer network's answer to the row `x`. -/
def layers (x : Fin 1024 → EReal) (w1 : S1024x1024.Idx → EReal) (b1 : Fin 1024 → EReal) (w2 : S1024x1024.Idx → EReal)
    (b2 : Fin 1024 → EReal) (c : Fin 1024) : EReal :=
  (∑ k : Fin 1024, max ((∑ j : Fin 1024, x j * w1 (ix2 j k)) + b1 k) 0 * w2 (ix2 k c)) + b2 c

/-- The first network's payload at an entry. -/
theorem phi_apply (v0 : Vec Ideal S1x256x1024 .f32) (v2 : Vec Ideal S1024x1024 .f32) (v4 : Vec Ideal S1x1024 .f32)
    (v10 : Vec Ideal S1024x1024 .f32) (v12 : Vec Ideal S1x1024 .f32) (z : Fin 1) (r : Fin 256) (c : Fin 1024) :
    k0_pay1 v0 v2 v4 v10 v12 (ix3 z r c)
      = layers (fun j => v0 (ix3 0 r j)) v2 (fun k => v4 (ix2 0 k)) v10 (fun k => v12 (ix2 0 k)) c := by
  unfold k0_pay1 layers
  pointwise

/-- The second network's payload at an entry. -/
theorem rho_apply (v0 : Vec Ideal S4x1024 .f32) (v2 : Vec Ideal S1024x1024 .f32) (v4 : Vec Ideal S1x1024 .f32)
    (v10 : Vec Ideal S1024x1024 .f32) (v12 : Vec Ideal S1x1024 .f32) (b : Fin 4) (c : Fin 1024) :
    k2_pay1 v0 v2 v4 v10 v12 (ix2 b c)
      = layers (fun j => v0 (ix2 b j)) v2 (fun k => v4 (ix2 0 k)) v10 (fun k => v12 (ix2 0 k)) c := by
  unfold k2_pay1 layers
  pointwise

end Cert.SortPool

end
-- ==== Proof.SortLevels.lean ====
/- A bitonic sort written with every stage rising: before a level the entries of the runs that are to fall change sign, and
   they change it back after the level. Over the extended reals each level so written is the level of the library's sorting
   network, so the whole sorts. -/
module

public import Idealize.ShloMosaic.Lib.SortNet.Bitonic
public import Idealize.ShloMosaic.Lib.SortNet.Sorts
public import Mathlib.Data.EReal.Inv

@[expose] public section

set_option maxRecDepth 16384

noncomputable section

namespace Cert.SortPool

open Idealize.ShloMosaic.SortNet

/-- A column: 2048 entries. -/
abbrev Col := Fin (2 ^ 11) → EReal

/-- Every pair `2 ^ s` apart put in rising order. -/
def ce (s : Nat) (v : Col) : Col := fun i =>
  if i.val &&& 2 ^ s = 0 then min (v i) (v (partner 11 s i)) else max (v i) (v (partner 11 s i))

/-- The entries whose position has bit `b` set, with their sign changed. -/
def sg (b : Nat) (v : Col) : Col := fun i => if i.val &&& 2 ^ b = 0 then v i else -v i

/-- The direction of the library's network at level `l`. -/
def dir (l : Nat) (i : Fin (2 ^ 11)) : Bool := (decide (i.val &&& 2 ^ (l + 1) = 0)) == false

theorem sg_sg (b : Nat) (v : Col) : sg b (sg b v) = v := by
  funext i
  unfold sg
  by_cases h : i.val &&& 2 ^ b = 0
  · rw [if_pos h, if_pos h]
  · rw [if_neg h, if_neg h, neg_neg]

/-- Bit `b` of a position's partner at another bit is the position's. -/
theorem partner_bit {s b : Nat} (hs : s < 11) (hsb : s ≠ b) (i : Fin (2 ^ 11)) :
    (partner 11 s i).val &&& 2 ^ b = i.val &&& 2 ^ b := by
  rw [partner_val hs, Nat.and_xor_distrib_right]
  have : 2 ^ s &&& 2 ^ b = 0 := by
    rw [and_two_pow_eq_zero_iff_testBit, Nat.testBit_two_pow]
    simp [hsb]
  rw [this, Nat.xor_zero]

/-- One stage of the network in terms of a position and its partner. -/
theorem stage_apply {s : Nat} (hs : s < 11) (w : Fin (2 ^ 11) → Bool) (hw : ∀ i, w (partner 11 s i) = w i) (v : Col) (i : Fin (2 ^ 11)) :
    Network.apply (stage 11 s w) v i
      = if (i.val &&& 2 ^ s = 0) = (w i = true) then max (v i) (v (partner 11 s i)) else min (v i) (v (partner 11 s i)) := by
  by_cases h : i.val &&& 2 ^ s = 0
  · rw [(apply_stage hs w v i h).1]
    by_cases hwi : w i = true
    · rw [if_pos hwi, if_pos (by simp [h, hwi])]
    · rw [if_neg hwi, if_neg (by simp [h, hwi])]
  · have h' := partner_and_of_set hs i h
    have e := (apply_stage hs w v (partner 11 s i) h').2
    rw [partner_partner hs, hw] at e
    rw [e]
    by_cases hwi : w i = true
    · rw [if_pos hwi, if_neg (by simp [h, hwi]), min_comm]
    · rw [if_neg hwi, if_pos (by simp [h, hwi]), max_comm]

/-- A rising stage between the two changes of sign is the network's stage. -/
theorem sg_ce_sg {s l : Nat} (hs : s < 11) (hl : s ≤ l) (v : Col) :
    sg (l + 1) (ce s (sg (l + 1) v)) = Network.apply (stage 11 s (dir l)) v := by
  have hb : ∀ i, (partner 11 s i).val &&& 2 ^ (l + 1) = i.val &&& 2 ^ (l + 1) := partner_bit hs (by omega)
  funext i
  rw [stage_apply hs _ (fun i => by unfold dir; rw [hb])]
  simp only [sg, ce, dir, hb]
  by_cases h : i.val &&& 2 ^ (l + 1) = 0
  · by_cases h' : i.val &&& 2 ^ s = 0 <;> simp [h, h']
  · by_cases h' : i.val &&& 2 ^ s = 0
    · simp only [h, h', if_true, if_false]
      rw [if_pos (by simp)]
      rw [EReal.min_neg_neg, neg_neg]
    · simp only [h, h', if_false]
      rw [if_neg (by simp)]
      rw [EReal.max_neg_neg, neg_neg]

/-- A level's stages one after another. -/
def run (L : List Nat) (v : Col) : Col := L.foldl (fun v s => ce s v) v

theorem sg_run_sg {l : Nat} (L : List Nat) (hL : ∀ s ∈ L, s < 11 ∧ s ≤ l) (v : Col) :
    sg (l + 1) (run L (sg (l + 1) v)) = Network.apply (L.flatMap fun s => stage 11 s (dir l)) v := by
  induction L generalizing v with
  | nil => exact sg_sg _ v
  | cons s L ih =>
    rw [List.flatMap_cons, Network.apply_append, ← sg_ce_sg (hL s List.mem_cons_self).1 (hL s List.mem_cons_self).2,
      ← ih fun t ht => hL t (List.mem_cons_of_mem _ ht)]
    rw [sg_sg]
    rfl

/-- No position has bit 11. -/
theorem sg_last (v : Col) : sg 11 v = v := by
  funext i
  unfold sg
  rw [if_pos]
  rw [and_two_pow_eq_zero_iff_testBit]
  exact Nat.testBit_lt_two_pow i.isLt

/-- A whole level. -/
def level (l : Nat) (v : Col) : Col := sg (l + 1) (run (List.range (l + 1)).reverse (sg (l + 1) v))

theorem level_eq {l : Nat} (hl : l < 11) (v : Col) :
    level l v = Network.apply ((List.range (l + 1)).reverse.flatMap fun s => stage 11 s (dir l)) v :=
  sg_run_sg _ (fun s hs => by rw [List.mem_reverse, List.mem_range] at hs; omega) v

/-- The eleven levels are the library's network. -/
theorem levels_eq (v : Col) :
    level 10 (level 9 (level 8 (level 7 (level 6 (level 5 (level 4 (level 3 (level 2 (level 1 (level 0 v))))))))))
      = Network.apply (sortNet 11 false) v := by
  have e : ∀ L : List Nat, (∀ l ∈ L, l < 11) → ∀ v : Col, L.foldl (fun v l => level l v) v
      = Network.apply (L.flatMap fun l => (List.range (l + 1)).reverse.flatMap fun s => stage 11 s (dir l)) v := by
    intro L
    induction L with
    | nil => intro _ v; rfl
    | cons l L ih =>
      intro h v
      rw [List.foldl_cons, List.flatMap_cons, Network.apply_append, ← level_eq (h l List.mem_cons_self)]
      exact ih (fun t ht => h t (List.mem_cons_of_mem _ ht)) _
  exact e (List.range 11) (fun l hl => List.mem_range.1 hl) v

/-- A bit of a row's number, the row's partner, and the quotient and remainder that say where the row lies. -/
theorem row_bits : ∀ s : Fin 11, ∀ r : Fin 2048,
    (r.val &&& 2 ^ s.val = 0 ∧ r.val ^^^ 2 ^ s.val = r.val + 2 ^ s.val ∧ r.val / 2 ^ s.val % 2 = 0 ∧ r.val + 2 ^ s.val < 2048)
      ∨ (r.val &&& 2 ^ s.val ≠ 0 ∧ r.val ^^^ 2 ^ s.val = r.val - 2 ^ s.val ∧ r.val / 2 ^ s.val % 2 = 1 ∧ 2 ^ s.val ≤ r.val) := by
  decide +kernel

end Cert.SortPool

end
-- ==== Proof.SortColumns.lean ====
/- The sorting stages read down a column, over the extended reals: a stage at distance `2 ^ s` puts every pair of entries
   `2 ^ s` apart in rising order, in either of the two ways the body writes it; so the sorted block's columns are the
   columns sorted. -/
module

public import proofs.«01_k».proof.Proof.SortStages
public import proofs.«01_k».proof.Proof.SortLevels
public import Idealize.ShloMosaic.Lib.Pipeline.Value
public import Idealize.ShloMosaic.Lib.Pointwise
public import Idealize.ShloMosaic.Lib.Tactic

@[expose] public section

set_option maxRecDepth 16384

noncomputable section

namespace Cert.SortPool

open Idealize.ShloMosaic Idealize.SL.Sem Cert.KernelIdeal Cert.KernelIdeal.Gen Idealize.ShloMosaic.SortNet

/-- A row's number as one of 2048. -/
def row (r : Fin (2 ^ 11)) : Fin 2048 := ⟨r.val, lt_of_lt_of_eq r.isLt (by norm_num)⟩

/-- Column `c` of a block. -/
def col (g : Rows Ideal) (c : Fin 128) : Col := fun r => g (ix2 (row r) c)

/-- The word of a row's number has bit `s` clear exactly when the number has. -/
theorem clear_apply (s : Fin 11) (w : BitVec 32) (hw : w.toNat = 2 ^ s.val) (r : Fin 2048) (z : Fin 1) :
    clear w (ix2 r z) = if r.val &&& 2 ^ s.val = 0 then 1#1 else 0#1 := by
  have e : rowIx (ix2 r z) = BitVec.ofNat 32 r.val := by
    show BitVec.ofNat 32 (0 * 2048 + r.val) = _
    rw [Nat.zero_mul, Nat.zero_add]
  show IntOp.cmpi .eq (rowIx (ix2 r z) &&& w) 0#32 = _
  rw [e]
  have hr := r.isLt
  by_cases h : r.val &&& 2 ^ s.val = 0
  · rw [if_pos h]
    have : BitVec.ofNat 32 r.val &&& w = 0#32 := by
      apply BitVec.eq_of_toNat_eq
      rw [BitVec.toNat_and, BitVec.toNat_ofNat, Nat.mod_eq_of_lt (by omega), hw, h]
      rfl
    rw [this]
    rfl
  · rw [if_neg h]
    have : BitVec.ofNat 32 r.val &&& w ≠ 0#32 := by
      intro e'
      apply h
      have := congrArg BitVec.toNat e'
      rw [BitVec.toNat_and, BitVec.toNat_ofNat, Nat.mod_eq_of_lt (by omega), hw] at this
      exact this
    show BitVec.ofBool (BitVec.ofNat 32 r.val &&& w == 0#32) = 0#1
    rw [beq_eq_false_iff_ne.mpr this]
    rfl

theorem wide_apply (m : IVec S2048x1 1) (r : Fin 2048) (c : Fin 128) : wide m (ix2 r c) = m (ix2 r 0) := by
  unfold wide
  rw [broadcastTo_apply _ _ (ix2 r c) (ix2 r (0 : Fin 1)) (fun a => by match a with | ⟨0, _⟩ => rfl | ⟨1, _⟩ => rfl)]
  exact shapeCast_apply _ _ _ _ rfl

theorem ofBits_neg_one : Ideal.ofBits .f32 0xBF800000#32 = -1 := by
  simp [Ideal.ofBits, Ideal.ieee]
  rw [← EReal.coe_mul]
  norm_num

theorem flip_apply (s : Fin 11) (w : BitVec 32) (hw : w.toNat = 2 ^ s.val) (g : Rows Ideal) (c : Fin 128) :
    col (flip w g) c = sg s.val (col g c) := by
  funext r
  unfold col sg flip
  show g (ix2 (row r) c) * _ = _
  rw [broadcastTo_apply _ _ (ix2 (row r) c) (ix2 (row r) (0 : Fin 1)) (fun a => by match a with | ⟨0, _⟩ => rfl | ⟨1, _⟩ => rfl)]
  show _ * Scalar.select (clear w (ix2 (row r) 0)) (Ideal.ofBits .f32 0x3F800000#32) (Ideal.ofBits .f32 0xBF800000#32) = _
  rw [clear_apply s w hw]
  by_cases h : r.val &&& 2 ^ s.val = 0
  · rw [if_pos (show (row r).val &&& 2 ^ s.val = 0 from h), if_pos h]
    rw [Ideal.ofBits_one_f32]
    exact mul_one _
  · rw [if_neg (show ¬ (row r).val &&& 2 ^ s.val = 0 from h), if_neg h]
    rw [ofBits_neg_one]
    show _ * (-1 : EReal) = _
    rw [mul_neg, mul_one]

theorem row_partner {s : Fin 11} (r : Fin (2 ^ 11)) : (row (partner 11 s.val r)).val = r.val ^^^ 2 ^ s.val := partner_val s.isLt r

theorem min_apply (g p : Rows Ideal) (i : S2048x128.Idx) : minimumf g p i = min (g i) (p i) := rfl
theorem max_apply (g p : Rows Ideal) (i : S2048x128.Idx) : maximumf g p i = max (g i) (p i) := rfl

/-- The rows from `d` on, followed by the first `d`. -/
theorem down_apply (d e : Nat) (hde : d + e = 2048) (h1 : S2048x128.Slices ![d, 0] ⟨2, ![e, 128]⟩)
    (h2 : S2048x128.Slices ![0, 0] ⟨2, ![d, 128]⟩) (hc : Shape.Concatenates [⟨2, ![e, 128]⟩, ⟨2, ![d, 128]⟩] S2048x128 0)
    (g : Rows Ideal) (r k : Fin 2048) (c : Fin 128) (hk : r.val < e ∧ k.val = r.val + d ∨ e ≤ r.val ∧ k.val + e = r.val) :
    down d e h1 h2 hc g (ix2 r c) = g (ix2 k c) := by
  unfold down
  rcases hk with ⟨hr, hk⟩ | ⟨hr, hk⟩
  · rw [concatenate_pair_apply_left (s₁ := ⟨2, ![e, 128]⟩) (s₂ := ⟨2, ![d, 128]⟩) 0 _ _ hc (ix2 r c) rfl (ix2 (⟨r.val, hr⟩ : Fin e) c)
      (fun a => by match a with | ⟨0, _⟩ => rfl | ⟨1, _⟩ => rfl)]
    exact extractStridedSlice_apply _ _ _ _ _ fun a => by
      match a with
      | ⟨0, _⟩ => exact hk.trans (Nat.add_comm _ _)
      | ⟨1, _⟩ => exact (Nat.zero_add _).symm
  · have hlt : r.val - e < d := by have := r.isLt; omega
    rw [concatenate_pair_apply_right (s₁ := ⟨2, ![e, 128]⟩) (s₂ := ⟨2, ![d, 128]⟩) 0 _ _ hc (ix2 r c) rfl rfl
      (ix2 (⟨r.val - e, hlt⟩ : Fin d) c)
      (fun a ha => by match a with | ⟨0, _⟩ => exact absurd rfl ha | ⟨1, _⟩ => rfl) (show r.val - e + e = r.val by omega)]
    exact extractStridedSlice_apply _ _ _ _ _ fun a => by
      match a with
      | ⟨0, _⟩ => show k.val = 0 + (r.val - e); omega
      | ⟨1, _⟩ => exact (Nat.zero_add _).symm

/-- A stage at a small distance puts every pair in rising order. -/
theorem near_apply (s : Fin 11) (d e : Nat) (w : BitVec 32) (hd : d = 2 ^ s.val) (hw : w.toNat = 2 ^ s.val) (hde : d + e = 2048)
    (h1 : S2048x128.Slices ![d, 0] ⟨2, ![e, 128]⟩) (h2 : S2048x128.Slices ![0, 0] ⟨2, ![d, 128]⟩)
    (h3 : S2048x128.Slices ![e, 0] ⟨2, ![d, 128]⟩) (h4 : S2048x128.Slices ![0, 0] ⟨2, ![e, 128]⟩)
    (hc : Shape.Concatenates [⟨2, ![e, 128]⟩, ⟨2, ![d, 128]⟩] S2048x128 0)
    (hc' : Shape.Concatenates [⟨2, ![d, 128]⟩, ⟨2, ![e, 128]⟩] S2048x128 0) (g : Rows Ideal) (c : Fin 128) :
    col (near d e w h1 h2 h3 h4 hc hc' g) c = ce s.val (col g c) := by
  subst hd
  funext r
  unfold col ce near exchange partners
  show Scalar.select (wide (clear w) (ix2 (row r) c)) (min (g (ix2 (row r) c)) (Scalar.select (wide (clear w) (ix2 (row r) c)) _ _))
    (max (g (ix2 (row r) c)) (Scalar.select (wide (clear w) (ix2 (row r) c)) _ _)) = _
  rw [wide_apply, clear_apply s w hw]
  have hp := row_partner (s := s) r
  rcases row_bits s (row r) with ⟨hb, hx, -, hlt⟩ | ⟨hb, hx, -, hle⟩
  · rw [if_pos hb, if_pos (show r.val &&& 2 ^ s.val = 0 from hb)]
    show min _ (down (2 ^ s.val) e h1 h2 hc g (ix2 (row r) c)) = _
    rw [down_apply _ _ hde _ _ _ g (row r) (row (partner 11 s.val r)) c (.inl ⟨by omega, hp.trans hx⟩)]
  · rw [if_neg hb, if_neg (show ¬ r.val &&& 2 ^ s.val = 0 from hb)]
    show max _ (down e (2 ^ s.val) h3 h4 hc' g (ix2 (row r) c)) = _
    have e' : (row (partner 11 s.val r)).val = (row r).val - 2 ^ s.val := hp.trans hx
    rw [down_apply _ _ (by omega) _ _ _ g (row r) (row (partner 11 s.val r)) c (.inr ⟨hle, by omega⟩)]

/-- A half of every pair of runs, read at a pair and a place in the run. -/
theorem half_apply (m d o : Nat) (ho : o < 2) (hmd : m * 2 * d = 2048) (hs : Shape.Slices ⟨4, ![m, 2, d, 128]⟩ ![0, o, 0, 0] ⟨4, ![m, 1, d, 128]⟩)
    (hc : Shape.ShapeCasts ⟨4, ![m, 1, d, 128]⟩ ⟨3, ![m, d, 128]⟩) (hi : Shape.ShapeCasts S2048x128 ⟨4, ![m, 2, d, 128]⟩)
    (g : Rows Ideal) (q : Fin m) (t : Fin d) (c : Fin 128) (k : Fin 2048) (hk : k.val = (q.val * 2 + o) * d + t.val) :
    half m d o hs hc (shapeCast _ g hi) (ix3 q t c) = g (ix2 k c) := by
  unfold half
  rw [shapeCast_apply _ hc (ix3 q t c) (ix4 q (0 : Fin 1) t c) (by
    rw [Shape.rowMajor_val_four, Shape.rowMajor_val_three]
    show ((q.val * 1 + 0) * d + t.val) * 128 + c.val = (q.val * d + t.val) * 128 + c.val
    ring)]
  rw [extractStridedSlice_apply _ _ hs (ix4 q (0 : Fin 1) t c) (ix4 q (⟨o, ho⟩ : Fin 2) t c) (fun a => by
    match a with
    | ⟨0, _⟩ => exact (Nat.zero_add _).symm
    | ⟨1, _⟩ => rfl
    | ⟨2, _⟩ => exact (Nat.zero_add _).symm
    | ⟨3, _⟩ => exact (Nat.zero_add _).symm)]
  exact shapeCast_apply _ hi _ _ (by
    rw [Shape.rowMajor_val_four, Shape.rowMajor_val_two]
    show k.val * 128 + c.val = ((q.val * 2 + o) * d + t.val) * 128 + c.val
    rw [hk])

/-- A stage at a distance of eight rows or more does too. -/
theorem far_apply (s : Fin 11) (m d : Nat) (hd : d = 2 ^ s.val) (hmd : m * 2 * d = 2048)
    (hi : Shape.ShapeCasts S2048x128 ⟨4, ![m, 2, d, 128]⟩)
    (h0 : Shape.Slices ⟨4, ![m, 2, d, 128]⟩ ![0, 0, 0, 0] ⟨4, ![m, 1, d, 128]⟩)
    (h1 : Shape.Slices ⟨4, ![m, 2, d, 128]⟩ ![0, 1, 0, 0] ⟨4, ![m, 1, d, 128]⟩)
    (hcd : Shape.ShapeCasts ⟨4, ![m, 1, d, 128]⟩ ⟨3, ![m, d, 128]⟩)
    (hu : Shape.ShapeCasts ⟨3, ![m, d, 128]⟩ ⟨4, ![m, 1, d, 128]⟩)
    (hc : Shape.Concatenates [⟨4, ![m, 1, d, 128]⟩, ⟨4, ![m, 1, d, 128]⟩] ⟨4, ![m, 2, d, 128]⟩ 1)
    (ho : Shape.ShapeCasts ⟨4, ![m, 2, d, 128]⟩ S2048x128) (g : Rows Ideal) (c : Fin 128) :
    col (far m d hi h0 h1 hcd hu hc ho g) c = ce s.val (col g c) := by
  funext r
  unfold col ce far
  have hp := row_partner (s := s) r
  have hd0 : 0 < d := hd ▸ Nat.two_pow_pos _
  have hq : (row r).val / d / 2 < m := by
    rw [Nat.div_div_eq_div_mul, Nat.div_lt_iff_lt_mul (by omega)]
    have := (row r).isLt
    calc (row r).val < 2048 := this
      _ = m * (d * 2) := by rw [← hmd]; ring
  have ht : (row r).val % d < d := Nat.mod_lt _ hd0
  have hr : (row r).val = ((row r).val / d / 2 * 2 + (row r).val / d % 2) * d + (row r).val % d := by
    rw [Nat.div_add_mod' ((row r).val / d) 2, Nat.div_add_mod']
  have hcast : ∀ x : (⟨3, ![m, d, 128]⟩ : Shape).Idx → EReal,
      shapeCast ⟨4, ![m, 1, d, 128]⟩ x hu (ix4 (⟨_, hq⟩ : Fin m) (0 : Fin 1) (⟨_, ht⟩ : Fin d) c) = x (ix3 ⟨_, hq⟩ ⟨_, ht⟩ c) := fun x =>
    shapeCast_apply x hu _ _ (by
      rw [Shape.rowMajor_val_four, Shape.rowMajor_val_three]
      show ((row r).val / d / 2 * d + (row r).val % d) * 128 + c.val = (((row r).val / d / 2 * 1 + 0) * d + (row r).val % d) * 128 + c.val
      ring)
  rcases row_bits s (row r) with ⟨hb, hx, hm, hlt⟩ | ⟨hb, hx, hm, hle⟩
  · rw [← hd] at hm hx hlt
    rw [hm] at hr
    rw [if_pos (show r.val &&& 2 ^ s.val = 0 from hb)]
    rw [shapeCast_apply _ ho (ix2 (row r) c) (ix4 (⟨_, hq⟩ : Fin m) (0 : Fin 2) (⟨_, ht⟩ : Fin d) c) (by
      rw [Shape.rowMajor_val_four, Shape.rowMajor_val_two]
      show (((row r).val / d / 2 * 2 + 0) * d + (row r).val % d) * 128 + c.val = (row r).val * 128 + c.val
      rw [← hr])]
    rw [concatenate_pair_apply_left (s₁ := ⟨4, ![m, 1, d, 128]⟩) (s₂ := ⟨4, ![m, 1, d, 128]⟩) 1 _ _ hc _ rfl
      (ix4 (⟨_, hq⟩ : Fin m) (0 : Fin 1) (⟨_, ht⟩ : Fin d) c)
      (fun a => by match a with | ⟨0, _⟩ => rfl | ⟨1, _⟩ => rfl | ⟨2, _⟩ => rfl | ⟨3, _⟩ => rfl)]
    rw [hcast]
    show min (half m d 0 _ _ _ _) (half m d 1 _ _ _ _) = _
    rw [half_apply m d 0 (by omega) hmd h0 hcd hi g _ _ c (row r) hr,
      half_apply m d 1 (by omega) hmd h1 hcd hi g _ _ c (row (partner 11 s.val r)) (by
        rw [hp, ← hd]
        refine hx.trans ?_
        show (row r).val + d = ((row r).val / d / 2 * 2 + 1) * d + (row r).val % d
        rw [Nat.add_zero] at hr
        rw [Nat.add_mul, Nat.one_mul]
        omega)]
  · rw [← hd] at hm hx hle
    rw [hm] at hr
    rw [if_neg (show ¬ r.val &&& 2 ^ s.val = 0 from hb)]
    rw [shapeCast_apply _ ho (ix2 (row r) c) (ix4 (⟨_, hq⟩ : Fin m) (1 : Fin 2) (⟨_, ht⟩ : Fin d) c) (by
      rw [Shape.rowMajor_val_four, Shape.rowMajor_val_two]
      show (((row r).val / d / 2 * 2 + 1) * d + (row r).val % d) * 128 + c.val = (row r).val * 128 + c.val
      rw [← hr])]
    rw [concatenate_pair_apply_right (s₁ := ⟨4, ![m, 1, d, 128]⟩) (s₂ := ⟨4, ![m, 1, d, 128]⟩) 1 _ _ hc _ rfl rfl
      (ix4 (⟨_, hq⟩ : Fin m) (0 : Fin 1) (⟨_, ht⟩ : Fin d) c)
      (fun a ha => by match a with | ⟨0, _⟩ => rfl | ⟨1, _⟩ => exact absurd rfl ha | ⟨2, _⟩ => rfl | ⟨3, _⟩ => rfl) rfl]
    rw [hcast]
    show max (half m d 0 _ _ _ _) (half m d 1 _ _ _ _) = _
    rw [half_apply m d 1 (by omega) hmd h1 hcd hi g _ _ c (row r) hr,
      half_apply m d 0 (by omega) hmd h0 hcd hi g _ _ c (row (partner 11 s.val r)) (by
        rw [hp, ← hd]
        refine hx.trans ?_
        show (row r).val - d = ((row r).val / d / 2 * 2 + 0) * d + (row r).val % d
        rw [Nat.add_mul, Nat.one_mul] at hr
        rw [Nat.add_zero]
        omega), max_comm]

/-! ## The eleven distances and levels, down a column -/

section Columns

variable (g : Rows Ideal) (c : Fin 128)

theorem col_c1 : col (c1 g) c = ce 0 (col g c) := near_apply 0 1 2047 _ rfl rfl rfl _ _ _ _ _ _ g c
theorem col_c2 : col (c2 g) c = ce 1 (col g c) := near_apply 1 2 2046 _ rfl rfl rfl _ _ _ _ _ _ g c
theorem col_c4 : col (c4 g) c = ce 2 (col g c) := near_apply 2 4 2044 _ rfl rfl rfl _ _ _ _ _ _ g c
theorem col_c8 : col (c8 g) c = ce 3 (col g c) := far_apply 3 128 8 rfl rfl _ _ _ _ _ _ _ g c
theorem col_c16 : col (c16 g) c = ce 4 (col g c) := far_apply 4 64 16 rfl rfl _ _ _ _ _ _ _ g c
theorem col_c32 : col (c32 g) c = ce 5 (col g c) := far_apply 5 32 32 rfl rfl _ _ _ _ _ _ _ g c
theorem col_c64 : col (c64 g) c = ce 6 (col g c) := far_apply 6 16 64 rfl rfl _ _ _ _ _ _ _ g c
theorem col_c128 : col (c128 g) c = ce 7 (col g c) := far_apply 7 8 128 rfl rfl _ _ _ _ _ _ _ g c
theorem col_c256 : col (c256 g) c = ce 8 (col g c) := far_apply 8 4 256 rfl rfl _ _ _ _ _ _ _ g c
theorem col_c512 : col (c512 g) c = ce 9 (col g c) := far_apply 9 2 512 rfl rfl _ _ _ _ _ _ _ g c
theorem col_c1024 : col (c1024 g) c = ce 10 (col g c) := far_apply 10 1 1024 rfl rfl _ _ _ _ _ _ _ g c

theorem col_low3 : col (low3 g) c = ce 0 (ce 1 (ce 2 (col g c))) := by
  unfold low3
  rw [col_c1, col_c2, col_c4]

theorem col_low6 : col (low6 g) c = ce 0 (ce 1 (ce 2 (ce 3 (ce 4 (ce 5 (col g c)))))) := by
  unfold low6
  rw [col_low3, col_c8, col_c16, col_c32]

theorem col_low10 : col (low10 g) c = ce 0 (ce 1 (ce 2 (ce 3 (ce 4 (ce 5 (ce 6 (ce 7 (ce 8 (ce 9 (col g c)))))))))) := by
  unfold low10
  rw [col_low6, col_c64, col_c128, col_c256, col_c512]

theorem col_lv1 : col (lv1 g) c = level 0 (col g c) := by
  unfold lv1
  rw [flip_apply 1 2#32 rfl, col_c1, flip_apply 1 2#32 rfl]
  rfl
theorem col_lv2 : col (lv2 g) c = level 1 (col g c) := by
  unfold lv2
  rw [flip_apply 2 4#32 rfl, col_c1, col_c2, flip_apply 2 4#32 rfl]
  rfl
theorem col_lv3 : col (lv3 g) c = level 2 (col g c) := by
  unfold lv3
  rw [flip_apply 3 8#32 rfl, col_low3, flip_apply 3 8#32 rfl]
  rfl
theorem col_lv4 : col (lv4 g) c = level 3 (col g c) := by
  unfold lv4
  rw [flip_apply 4 16#32 rfl, col_low3, col_c8, flip_apply 4 16#32 rfl]
  rfl
theorem col_lv5 : col (lv5 g) c = level 4 (col g c) := by
  unfold lv5
  rw [flip_apply 5 32#32 rfl, col_low3, col_c8, col_c16, flip_apply 5 32#32 rfl]
  rfl
theorem col_lv6 : col (lv6 g) c = level 5 (col g c) := by
  unfold lv6
  rw [flip_apply 6 64#32 rfl, col_low6, flip_apply 6 64#32 rfl]
  rfl
theorem col_lv7 : col (lv7 g) c = level 6 (col g c) := by
  unfold lv7
  rw [flip_apply 7 128#32 rfl, col_low6, col_c64, flip_apply 7 128#32 rfl]
  rfl
theorem col_lv8 : col (lv8 g) c = level 7 (col g c) := by
  unfold lv8
  rw [flip_apply 8 256#32 rfl, col_low6, col_c64, col_c128, flip_apply 8 256#32 rfl]
  rfl
theorem col_lv9 : col (lv9 g) c = level 8 (col g c) := by
  unfold lv9
  rw [flip_apply 9 512#32 rfl, col_low6, col_c64, col_c128, col_c256, flip_apply 9 512#32 rfl]
  rfl
theorem col_lv10 : col (lv10 g) c = level 9 (col g c) := by
  unfold lv10
  rw [flip_apply 10 1024#32 rfl, col_low10, flip_apply 10 1024#32 rfl]
  rfl
theorem col_lv11 : col (lv11 g) c = level 10 (col g c) := by
  unfold lv11 level
  rw [col_low10, col_c1024, sg_last, sg_last]
  rfl

/-- The sorted block's columns are the library's network on the block's columns. -/
theorem col_sorted : col (sorted g) c = Network.apply (sortNet 11 false) (col g c) := by
  unfold sorted
  rw [col_lv11, col_lv10, col_lv9, col_lv8, col_lv7, col_lv6, col_lv5, col_lv4, col_lv3, col_lv2, col_lv1, levels_eq]

/-- So they rise, -/
theorem col_sorted_monotone : Monotone (col (sorted g) c) := by
  rw [col_sorted]
  exact sortNet_apply_monotone _ _

/-- and they hold what the block's columns hold. -/
theorem col_sorted_perm : ∃ σ : Equiv.Perm (Fin (2 ^ 11)), col (sorted g) c = col g c ∘ σ := by
  rw [col_sorted]
  exact Network.exists_perm _ _

end Columns

end Cert.SortPool

end
-- ==== Proof.Rising.lean ====
/- A column of 2048 entries in rising order, named once for both programs: it is what the sorting network makes of the
   column, and any rising rearrangement of the column is this one. -/
module

public import proofs.«01_k».proof.Proof.SortColumns

@[expose] public section

set_option maxRecDepth 16384

noncomputable section

namespace Cert.SortPool

open Idealize.ShloMosaic Cert.KernelIdeal Cert.KernelIdeal.Gen Idealize.ShloMosaic.SortNet

/-- A row number below 2048 as one below `2 ^ 11`. -/
def unrow (r : Fin 2048) : Fin (2 ^ 11) := ⟨r.val, lt_of_lt_of_eq r.isLt (by norm_num)⟩

/-- The two ways of counting the rows. -/
def rows : Fin (2 ^ 11) ≃ Fin 2048 := ⟨row, unrow, fun _ => rfl, fun _ => rfl⟩

/-- The entries of `v` in rising order. -/
def rising (v : Fin 2048 → EReal) : Fin 2048 → EReal :=
  fun r => Network.apply (sortNet 11 false) (fun r => v (row r) : Col) (unrow r)

theorem rising_monotone (v : Fin 2048 → EReal) : Monotone (rising v) := fun _ _ h =>
  sortNet_apply_monotone 11 (fun r => v (row r) : Col) (show unrow _ ≤ unrow _ from h)

theorem rising_perm (v : Fin 2048 → EReal) : ∃ σ : Equiv.Perm (Fin 2048), rising v = v ∘ σ := by
  obtain ⟨σ, e⟩ := Network.exists_perm (sortNet 11 false) (fun r => v (row r) : Col)
  refine ⟨(rows.symm.trans σ).trans rows, funext fun r => ?_⟩
  exact congrFun e (unrow r)

/-- Two rising rearrangements of one column are equal. -/
theorem rearranged_eq (v f g : Fin 2048 → EReal) (hf : Monotone f) (hg : Monotone g) (σ τ : Equiv.Perm (Fin 2048))
    (ef : f = v ∘ σ) (eg : g = v ∘ τ) : f = g := by
  refine List.ofFn_injective (List.Perm.eq_of_pairwise (le := (· ≤ ·)) (fun a b _ _ h h' => le_antisymm h h')
    (List.pairwise_ofFn.mpr fun i j h => hf h.le) (List.pairwise_ofFn.mpr fun i j h => hg h.le) ?_)
  rw [ef, eg]
  exact (Equiv.Perm.ofFn_comp_perm σ v).trans (Equiv.Perm.ofFn_comp_perm τ v).symm

/-- A rising rearrangement of `v` is `rising v`. -/
theorem eq_rising (v f : Fin 2048 → EReal) (hf : Monotone f) (σ : Equiv.Perm (Fin 2048)) (e : f = v ∘ σ) : f = rising v := by
  obtain ⟨τ, e'⟩ := rising_perm v
  exact rearranged_eq v f _ hf (rising_monotone v) σ τ e e'

/-- The sorted block holds each column's entries in rising order. -/
theorem sorted_apply (g : Rows Ideal) (r : Fin 2048) (c : Fin 128) :
    sorted g (ix2 r c) = rising (fun r => g (ix2 r c)) r :=
  congrFun (col_sorted (g := g) (c := c)) (unrow r)

end Cert.SortPool

end
-- ==== Proof.Pooled.lean ====
/- The sorting kernel's body read at a column: the negated sum, over the rows, of the sorted negated column times the
   weights. -/
module

public import proofs.«01_k».proof.Proof.Rising

@[expose] public section

set_option maxRecDepth 16384

noncomputable section

namespace Cert.SortPool

open Idealize.ShloMosaic Cert.KernelIdeal Cert.KernelIdeal.Gen

theorem negRows_apply (x : Vec Ideal S1x2048x128 .f32) (r : Fin 2048) (c : Fin 128) :
    negRows x (ix2 r c) = - x (ix3 0 r c) := by
  unfold negRows
  pointwise
  exact zero_sub _

theorem pooled_apply (x : Vec Ideal S1x2048x128 .f32) (wt : Vec Ideal S2048x128 .f32) (z z' : Fin 1) (c : Fin 128) :
    k1_pay1 (pooled x wt) (ix3 z z' c)
      = 0 - ∑ r : Fin 2048, rising (fun r => - x (ix3 0 r c)) r * wt (ix2 r c) := by
  refine Eq.trans (b := 0 - ∑ r : Fin 2048, sorted (negRows x) (ix2 r c) * wt (ix2 r c)) ?_ ?_
  · unfold k1_pay1 pooled
    generalize sorted (negRows x) = s
    pointwise
  · simp only [sorted_apply, negRows_apply]

end Cert.SortPool

end
-- ==== Proof.Regions.lean ====
/- What each of the three calls leaves in its result array, as a function of the arrays it finds: the blocks written back
   tile the array, and at every index the body's block is read at the coordinates it is placed at. -/
module

public import proofs.«01_k».proof.Proof.SortOut
public import proofs.«01_k».proof.Proof.Layers
public import proofs.«01_k».proof.Proof.Pooled
public import proofs.«01_k».proof.Proof.Rising
public import Idealize.ShloMosaic.Lib.Pipeline.ValueKit
public import Idealize.ShloMosaic.Lib.Pointwise

@[expose] public section

set_option maxRecDepth 16384

noncomputable section

namespace Cert.SortPool

open Idealize.ShloMosaic Idealize.SL.Sem Cert.KernelIdeal Cert.KernelIdeal.Gen Idealize.ShloMosaic.TcCoe
open Idealize.ShloMosaic.Pipeline (Dat Cfg Window)

variable {F : FTy → Type} [FloatOps F]
section any

variable (V : (c : Dev nD) → (b : Ref sig .tc) → Buf (Elt F) ((c : Thread nD τ).loc b))

theorem out0_eq (x0 : Vec F S1x256x1024 .f32) (x1 : Vec F S1024x1024 .f32) (x2 : Vec F S1x1024 .f32)
    (x3 : Vec F S1024x1024 .f32) (x4 : Vec F S1x1024 .f32) : out0_5 x0 x1 x2 x3 x4 = k0_pay1 x0 x1 x2 x3 x4 := by
  unfold out0_5
  rw [View.canon_unit_zero offsets3, View.ld_unit_zero offsets3, View.ld_unit_zero offsets2, View.ld_unit_zero offsets2,
    View.ld_unit_zero offsets2, View.ld_unit_zero offsets2]

theorem out2_eq (x0 : Vec F S4x1024 .f32) (x1 : Vec F S1024x1024 .f32) (x2 : Vec F S1x1024 .f32)
    (x3 : Vec F S1024x1024 .f32) (x4 : Vec F S1x1024 .f32) : out2_5 x0 x1 x2 x3 x4 = k2_pay1 x0 x1 x2 x3 x4 := by
  unfold out2_5
  rw [View.canon_unit_zero offsets2, View.ld_unit_zero offsets2, View.ld_unit_zero offsets2, View.ld_unit_zero offsets2,
    View.ld_unit_zero offsets2, View.ld_unit_zero offsets2]

theorem e0_0 : ∀ t : Fin cfg0.N, win0_0.index t = ![(grid0.coords t 0).val, (grid0.coords t 1).val, 0] :=
  (by decide +kernel : ∀ t : Fin grid0.N, _)
theorem e0_1 : ∀ t : Fin cfg0.N, win0_1.index t = ![0, 0] := (by decide +kernel : ∀ t : Fin grid0.N, _)
theorem e0_2 : ∀ t : Fin cfg0.N, win0_2.index t = ![0, 0] := (by decide +kernel : ∀ t : Fin grid0.N, _)
theorem e0_3 : ∀ t : Fin cfg0.N, win0_3.index t = ![0, 0] := (by decide +kernel : ∀ t : Fin grid0.N, _)
theorem e0_4 : ∀ t : Fin cfg0.N, win0_4.index t = ![0, 0] := (by decide +kernel : ∀ t : Fin grid0.N, _)
theorem e0_5 : ∀ t : Fin cfg0.N, win0_5.index t = ![(grid0.coords t 0).val, (grid0.coords t 1).val, 0] :=
  (by decide +kernel : ∀ t : Fin grid0.N, _)

theorem e2_0 : ∀ t : Fin cfg2.N, win2_0.index t = ![0, 0] := (by decide +kernel : ∀ t : Fin grid2.N, _)
theorem e2_1 : ∀ t : Fin cfg2.N, win2_1.index t = ![0, 0] := (by decide +kernel : ∀ t : Fin grid2.N, _)
theorem e2_2 : ∀ t : Fin cfg2.N, win2_2.index t = ![0, 0] := (by decide +kernel : ∀ t : Fin grid2.N, _)
theorem e2_3 : ∀ t : Fin cfg2.N, win2_3.index t = ![0, 0] := (by decide +kernel : ∀ t : Fin grid2.N, _)
theorem e2_4 : ∀ t : Fin cfg2.N, win2_4.index t = ![0, 0] := (by decide +kernel : ∀ t : Fin grid2.N, _)
theorem e2_5 : ∀ t : Fin cfg2.N, win2_5.index t = ![0, 0] := (by decide +kernel : ∀ t : Fin grid2.N, _)

/-- The four arrays that the first call reads whole at every point. -/
theorem blk0_1 (c : Dev nD) (t : Fin cfg0.N) : iblk0 V c 1 t = V c main_arg1 := by
  funext y
  blk_simp [iblk0]
  congr 1
  blk_ext [e0_1]

theorem blk0_2 (c : Dev nD) (t : Fin cfg0.N) : iblk0 V c 2 t = V c main_call0_v0 := by
  funext y
  blk_simp [iblk0]
  congr 1
  blk_ext [e0_2]

theorem blk0_3 (c : Dev nD) (t : Fin cfg0.N) : iblk0 V c 3 t = V c main_arg3 := by
  funext y
  blk_simp [iblk0]
  congr 1
  blk_ext [e0_3]

theorem blk0_4 (c : Dev nD) (t : Fin cfg0.N) : iblk0 V c 4 t = V c main_call0_v1 := by
  funext y
  blk_simp [iblk0]
  congr 1
  blk_ext [e0_4]

/-- The five arrays of the last call, which has one point, are read whole. -/
theorem blk2_0 (c : Dev nD) (t : Fin cfg2.N) : iblk2 V c 0 t = V c main_call0_v30 := by
  funext y
  blk_simp [iblk2]
  congr 1
  blk_ext [e2_0]

theorem blk2_1 (c : Dev nD) (t : Fin cfg2.N) : iblk2 V c 1 t = V c main_arg6 := by
  funext y
  blk_simp [iblk2]
  congr 1
  blk_ext [e2_1]

theorem blk2_2 (c : Dev nD) (t : Fin cfg2.N) : iblk2 V c 2 t = V c main_call0_v31 := by
  funext y
  blk_simp [iblk2]
  congr 1
  blk_ext [e2_2]

theorem blk2_3 (c : Dev nD) (t : Fin cfg2.N) : iblk2 V c 3 t = V c main_arg8 := by
  funext y
  blk_simp [iblk2]
  congr 1
  blk_ext [e2_3]

theorem blk2_4 (c : Dev nD) (t : Fin cfg2.N) : iblk2 V c 4 t = V c main_call0_v32 := by
  funext y
  blk_simp [iblk2]
  congr 1
  blk_ext [e2_4]

end any

variable (V : (c : Dev nD) → (b : Ref sig .tc) → Buf (Elt Ideal) ((c : Thread nD τ).loc b))

/-- The first call's result: at batch entry `b`, row `s`, column `c`, the network's answer to row `(b, s)`. -/
def phiOut (x : S4x2048x1024.Idx → EReal) (w1 : S1024x1024.Idx → EReal) (b1 : S1x1024.Idx → EReal)
    (w2 : S1024x1024.Idx → EReal) (b2 : S1x1024.Idx → EReal) : S4x2048x1024.Idx → EReal :=
  fun i => layers (fun j => x (ix3 (i 0) (i 1) j)) w1 (fun k => b1 (ix2 0 k)) w2 (fun k => b2 (ix2 0 k)) (i 2)

theorem final0 (c : Dev nD) : (dat0 V c).arrAt 5 cfg0.N
    = phiOut (V c main_arg0) (V c main_arg1) (V c main_call0_v0) (V c main_arg3) (V c main_call0_v1) := by
  refine (dat0 V c).arrAt_eq_of_covers 5 (phiOut (V c main_arg0) (V c main_arg1) (V c main_call0_v0) (V c main_arg3)
    (V c main_call0_v1)) (by decide +kernel) fun t hf y => ?_
  blk_simp
  rw [after0_5, out0_eq, blk0_1, blk0_2, blk0_3, blk0_4]
  have hy : y = ix3 (y 0) (y 1) (y 2) := (ix3_eta y).symm
  rw [hy]
  refine (phi_apply _ _ _ _ _ _ _ _).trans ?_
  unfold phiOut
  congr 1
  · funext j
    blk_simp [iblk0]
    congr 1
    blk_ext [e0_0, e0_5]
  · apply Fin.ext
    blk_simp [e0_5]

/-- The last call's result: at batch entry `b`, column `c`, the network's answer to row `b`. -/
def rhoOut (p : S4x1024.Idx → EReal) (w1 : S1024x1024.Idx → EReal) (b1 : S1x1024.Idx → EReal)
    (w2 : S1024x1024.Idx → EReal) (b2 : S1x1024.Idx → EReal) : S4x1024.Idx → EReal :=
  fun i => layers (fun j => p (ix2 (i 0) j)) w1 (fun k => b1 (ix2 0 k)) w2 (fun k => b2 (ix2 0 k)) (i 1)

theorem final2 (c : Dev nD) : (dat2 V c).arrAt 5 cfg2.N
    = rhoOut (V c main_call0_v30) (V c main_arg6) (V c main_call0_v31) (V c main_arg8) (V c main_call0_v32) := by
  refine (dat2 V c).arrAt_eq_of_covers 5 (rhoOut (V c main_call0_v30) (V c main_arg6) (V c main_call0_v31) (V c main_arg8)
    (V c main_call0_v32)) (by decide +kernel) fun t hf y => ?_
  blk_simp
  rw [after2_5, out2_eq, blk2_0, blk2_1, blk2_2, blk2_3, blk2_4]
  have hy : y = ix2 (y 0) (y 1) := (ix2_eta y).symm
  rw [hy]
  refine (rho_apply _ _ _ _ _ _ _).trans ?_
  unfold rhoOut
  congr 1
  · funext j
    congr 1
    blk_ext [e2_5]
  · apply Fin.ext
    blk_simp [e2_5]

end Cert.SortPool

end
-- ==== Proof.SortRegion.lean ====
/- What the sorting call leaves in its result array, as a function of the arrays it finds: each grid point writes back the
   pooled values of 128 columns of one batch entry. -/
module

public import proofs.«01_k».proof.Proof.SortOut
public import proofs.«01_k».proof.Proof.Pooled
public import Idealize.ShloMosaic.Lib.Pipeline.ValueKit
public import Idealize.ShloMosaic.Lib.Pointwise

@[expose] public section

set_option maxRecDepth 16384

noncomputable section

namespace Cert.SortPool

open Idealize.ShloMosaic Idealize.SL.Sem Cert.KernelIdeal Cert.KernelIdeal.Gen Idealize.ShloMosaic.TcCoe
open Idealize.ShloMosaic.Pipeline (Dat Cfg Window)

variable (V : (c : Dev nD) → (b : Ref sig .tc) → Buf (Elt Ideal) ((c : Thread nD τ).loc b))

theorem e1_0 : ∀ t : Fin cfg1.N, win1_0.index t = ![(grid1.coords t 0).val, 0, (grid1.coords t 1).val] :=
  (by decide +kernel : ∀ t : Fin grid1.N, _)
theorem e1_1 : ∀ t : Fin cfg1.N, win1_1.index t = ![0, (grid1.coords t 1).val] := (by decide +kernel : ∀ t : Fin grid1.N, _)
theorem e1_2 : ∀ t : Fin cfg1.N, win1_2.index t = ![(grid1.coords t 0).val, 0, (grid1.coords t 1).val] :=
  (by decide +kernel : ∀ t : Fin grid1.N, _)

/-- The batch entry of a grid point, and the column its block's column `k` is. -/
def entryOf (t : Fin cfg1.N) : Fin 4 := ⟨(grid1.coords t 0).val, (grid1.coords t 0).isLt⟩
def columnOf (t : Fin cfg1.N) (k : Fin 128) : Fin 1024 :=
  ⟨(grid1.coords t 1).val * 128 + k.val, by have h : (grid1.coords t 1).val < 8 := (grid1.coords t 1).isLt; have := k.isLt; omega⟩

theorem blk1_0 (c : Dev nD) (t : Fin cfg1.N) (r : Fin 2048) (k : Fin 128) :
    iblk1 V c 0 t (ix3 0 r k) = V c main_call0_v2 (ix3 (entryOf t) r (columnOf t k)) := by
  blk_simp [iblk1]
  congr 1
  blk_ext [e1_0, entryOf, columnOf]

theorem blk1_1 (c : Dev nD) (t : Fin cfg1.N) (r : Fin 2048) (k : Fin 128) :
    iblk1 V c 1 t (ix2 r k) = V c main_call0_v28 (ix2 r (columnOf t k)) := by
  blk_simp [iblk1]
  congr 1
  blk_ext [e1_1, columnOf]

theorem emb1_2 (t : Fin cfg1.N) (z z' : Fin 1) (k : Fin 128) :
    (win1_2.blk t).view.emb (ix3 z z' k) = ix3 (entryOf t) 0 (columnOf t k) := by
  blk_ext [e1_2, entryOf, columnOf]

/-- At batch entry `b`, column `c`, the pooled column. -/
def poolOut (h : S4x2048x1024.Idx → EReal) (wt : S2048x1024.Idx → EReal) : S4x1x1024.Idx → EReal :=
  fun i => 0 - ∑ r : Fin 2048, rising (fun r => - h (ix3 (i 0) r (i 2))) r * wt (ix2 r (i 2))

theorem pooled_block (c : Dev nD) (t : Fin cfg1.N) (z z' : Fin 1) (k : Fin 128) :
    k1_pay1 (pooled (F := Ideal) (iblk1 V c 0 t) (iblk1 V c 1 t)) (ix3 z z' k)
      = poolOut (V c main_call0_v2) (V c main_call0_v28) (ix3 (entryOf t) 0 (columnOf t k)) := by
  refine (pooled_apply _ _ _ _ _).trans ?_
  simp only [blk1_0, blk1_1]
  rfl

theorem final1 (c : Dev nD) : (dat1 V c).arrAt 2 cfg1.N = poolOut (V c main_call0_v2) (V c main_call0_v28) := by
  refine (dat1 V c).arrAt_eq_of_covers 2 (poolOut (V c main_call0_v2) (V c main_call0_v28)) (by decide +kernel)
    fun t hf y => ?_
  have e : (dat1 V c).after 2 t = k1_pay1 (pooled (F := Ideal) (iblk1 V c 0 t) (iblk1 V c 1 t)) := by
    rw [after1_2]
    unfold outsAt1
    rw [out_eq]
  blk_simp
  rw [e]
  have hy : y = ix3 (y 0) (y 1) (y 2) := (ix3_eta y).symm
  rw [hy]
  exact (pooled_block V c t (y 0) (y 1) (y 2)).trans (congrArg _ (emb1_2 t (y 0) (y 1) (y 2)).symm)

end Cert.SortPool

end
-- ==== Proof.Weights.lean ====
/- The pooling weights as both programs compute them on the host: the position of every row on the twenty pieces, the piece
   it falls on, and the table's entries at that piece's two ends, mixed by how far along the piece the row is. -/
module

public import proofs.«01_k».proof.Proof.Gen.ReferenceIdeal

@[expose] public section

noncomputable section

namespace Cert.SortPool

open Idealize.ShloMosaic Cert.ReferenceIdeal Cert.ReferenceIdeal.Gen

variable (F : FTy → Type) [FloatOps F]

/-- Row `i`'s position, `20 * (i / 2047)`. -/
def position : FVec F S2048 .f32 :=
  mulf (broadcastInDim S2048 ![] bcast_S_S2048 (constant S_ .f32 0x41A00000#32)) (Host.divf (sitofp .f32 (iotaInDim S2048 32 0)) (broadcastInDim S2048 ![] bcast_S_S2048 (id (maximumf (constant S_ .f32 0x3F800000#32) (constant S_ .f32 0x44FFE000#32)))))

/-- The piece it falls on, -/
def piece : IVec S2048 32 := fptosi 32 (position F)

/-- the next one, but never past the last, -/
def nextPiece : IVec S2048 32 :=
  minsi (addi (piece F) (broadcastInDim S2048 ![] bcast_S_S2048 (constantI S_ 32 1#32))) (broadcastInDim S2048 ![] bcast_S_S2048 (constantI S_ 32 20#32))

/-- and how far along its piece the row is. -/
def along : FVec F S2048 .f32 := subf (position F) (sitofp .f32 (piece F))

/-- An index into the table, a negative one counted from the end. -/
def start (ix : IVec S2048 32) : IVec S2048x1 32 :=
  broadcastInDim S2048x1 ![0] bcast_S2048_S2048x1_0 (select (cmpi .slt ix (broadcastInDim S2048 ![] bcast_S_S2048 (constantI S_ 32 0#32))) (addi ix (broadcastInDim S2048 ![] bcast_S_S2048 (constantI S_ 32 21#32))) ix)

/-- Whether it lies within the table. -/
def within (ix : IVec S2048 32) : IVec S2048x1 1 :=
  andi (cmpi .sge (start ix) (broadcastInDim S2048x1 ![] bcast_S_S2048x1 (constantI S_ 32 0#32))) (cmpi .sle (start ix) (broadcastInDim S2048x1 ![0, 1] bcast_S1x1_S2048x1_0_1 (broadcastInDim S1x1 ![1] bcast_S1_S1x1_1 (constantI S1 32 20#32))))

/-- The table's columns at the indices `ix`. -/
def taken (pw : FVec F S1024x21 .f32) (ix : IVec S2048 32) : FVec F S1024x2048 .f32 :=
  select (broadcastInDim S1024x2048 ![1] bcast_S2048_S1024x2048_1 (Host.reduce IntOp.andi (within ix) (constantI S_ 1 1#1) reducesTo_S2048x1_S2048_d1 h_S_)) (Host.gather gather_S1024x21_S2048x1_S1024x2048_0_1_n_n_1_1_10241 pw (start ix)) (broadcastInDim S1024x2048 ![] bcast_S_S1024x2048 (constant S_ .f32 0x7FC00000#32))

/-- A value per row, for every column. -/
def spread (v : FVec F S2048 .f32) : FVec F S1024x2048 .f32 :=
  broadcastInDim S1024x2048 ![0, 1] bcast_S1x2048_S1024x2048_0_1 (broadcastInDim S1x2048 ![1] bcast_S2048_S1x2048_1 v)

/-- The weights, by column and row. -/
def weights (pw : FVec F S1024x21 .f32) : FVec F S1024x2048 .f32 :=
  addf (mulf (spread F (subf (broadcastInDim S2048 ![] bcast_S_S2048 (constant S_ .f32 0x3F800000#32)) (along F))) (taken F pw (piece F)))
    (mulf (spread F (along F)) (taken F pw (nextPiece F)))

end Cert.SortPool

end
-- ==== Proof.HostReads.lean ====
/- What the host operations between the calls leave in the buffers that the calls read: the biases as one-row matrices, the
   transposed weights, and the pooled values as a matrix. -/
module

public import proofs.«01_k».proof.Proof.Weights
public import proofs.«01_k».proof.Proof.Gen.KernelIdeal.Frame
public import Idealize.ShloMosaic.Lib.StableHlo.Run

@[expose] public section

set_option maxRecDepth 16384

noncomputable section

namespace Cert.SortPool

open Idealize.ShloMosaic Idealize.ShloMosaic.TcCoe Idealize.SL.Sem Cert.KernelIdeal Cert.KernelIdeal.Gen Idealize.ShloMosaic.StableHlo

variable {F : FTy → Type} [FloatOps F]

/-- The first call's two biases. -/
theorem read_b1 (W : Valuation τ sig (Elt F)) : StableHlo.after hostOps0 W (Proc.devRef .tc main_call0_v0)
    = shapeCast S1x1024 (W (Proc.devRef .tc main_arg2)) shapeCasts_S1024_S1x1024 := by
  simp only [hostOps0, TRef.binary, TRef.nullary, TRef.ternary, TRef.unary, TRef.reshape, TRef.toBuf, TRef.ofBuf, cast_eq]
  after_results_simp <;> rfl

theorem read_b2 (W : Valuation τ sig (Elt F)) : StableHlo.after hostOps0 W (Proc.devRef .tc main_call0_v1)
    = shapeCast S1x1024 (W (Proc.devRef .tc main_arg4)) shapeCasts_S1024_S1x1024 := by
  simp only [hostOps0, TRef.binary, TRef.nullary, TRef.ternary, TRef.unary, TRef.reshape, TRef.toBuf, TRef.ofBuf, cast_eq]
  after_results_simp <;> rfl

/-- The pooled values and the last call's two biases. -/
theorem read_pooled (W : Valuation τ sig (Elt F)) : StableHlo.after hostOps2 W (Proc.devRef .tc main_call0_v30)
    = shapeCast S4x1024 (W (Proc.devRef .tc main_call0_v29)) shapeCasts_S4x1x1024_S4x1024 := by
  simp only [hostOps2, TRef.binary, TRef.nullary, TRef.ternary, TRef.unary, TRef.reshape, TRef.toBuf, TRef.ofBuf, cast_eq]
  after_results_simp <;> rfl

theorem read_b3 (W : Valuation τ sig (Elt F)) : StableHlo.after hostOps2 W (Proc.devRef .tc main_call0_v31)
    = shapeCast S1x1024 (W (Proc.devRef .tc main_arg7)) shapeCasts_S1024_S1x1024 := by
  simp only [hostOps2, TRef.binary, TRef.nullary, TRef.ternary, TRef.unary, TRef.reshape, TRef.toBuf, TRef.ofBuf, cast_eq]
  after_results_simp <;> rfl

theorem read_b4 (W : Valuation τ sig (Elt F)) : StableHlo.after hostOps2 W (Proc.devRef .tc main_call0_v32)
    = shapeCast S1x1024 (W (Proc.devRef .tc main_arg9)) shapeCasts_S1024_S1x1024 := by
  simp only [hostOps2, TRef.binary, TRef.nullary, TRef.ternary, TRef.unary, TRef.reshape, TRef.toBuf, TRef.ofBuf, cast_eq]
  after_results_simp <;> rfl

end Cert.SortPool

end
-- ==== Proof.WeightReads.lean ====
/- The weights that the sorting call reads: the host's weights, transposed. -/
module

public import proofs.«01_k».proof.Proof.Weights
public import proofs.«01_k».proof.Proof.Gen.KernelIdeal.Frame
public import Idealize.ShloMosaic.Lib.StableHlo.Run

@[expose] public section

set_option maxRecDepth 16384

noncomputable section

namespace Cert.SortPool

open Idealize.ShloMosaic Idealize.ShloMosaic.TcCoe Idealize.SL.Sem Cert.KernelIdeal Cert.KernelIdeal.Gen Idealize.ShloMosaic.StableHlo

variable {F : FTy → Type} [FloatOps F]

set_option maxHeartbeats 42400000 in
theorem read_weights (W : Valuation τ sig (Elt F)) : StableHlo.after hostOps1 W (Proc.devRef .tc main_call0_v28)
    = transpose S2048x1024 [1, 0] (weights F (W (Proc.devRef .tc main_arg5))) transposes_S1024x2048_S2048x1024_1_0 := by
  simp only [hostOps1, TRef.binary, TRef.nullary, TRef.ternary, TRef.unary, TRef.reshape, TRef.toBuf, TRef.ofBuf, cast_eq]
  after_results_simp <;> rfl

end Cert.SortPool

end
-- ==== Proof.KernelValue.lean ====
/- The kernel's result as a function of its arguments, over the extended reals: the three calls' results, one fed to the next
   through the host operations between them. -/
module

public import proofs.«01_k».proof.Proof.Regions
public import proofs.«01_k».proof.Proof.SortRegion
public import proofs.«01_k».proof.Proof.HostReads
public import proofs.«01_k».proof.Proof.WeightReads

@[expose] public section

set_option maxRecDepth 16384

noncomputable section

namespace Cert.SortPool

open Idealize.ShloMosaic Idealize.ShloMosaic.TcCoe Idealize.SL.Sem Cert.KernelIdeal Cert.KernelIdeal.Gen

/-- A bias as a one-row matrix, the weights transposed, and the pooled values as a matrix. -/
def asRow (b : S1024.Idx → EReal) : S1x1024.Idx → EReal := shapeCast S1x1024 b shapeCasts_S1024_S1x1024
def turned (w : S1024x2048.Idx → EReal) : S2048x1024.Idx → EReal :=
  transpose S2048x1024 [1, 0] w transposes_S1024x2048_S2048x1024_1_0
def asMatrix (p : S4x1x1024.Idx → EReal) : S4x1024.Idx → EReal := shapeCast S4x1024 p shapeCasts_S4x1x1024_S4x1024

/-- The kernel's result. -/
def kernelOut (x : S4x2048x1024.Idx → EReal) (w1 : S1024x1024.Idx → EReal) (b1 : S1024.Idx → EReal)
    (w2 : S1024x1024.Idx → EReal) (b2 : S1024.Idx → EReal) (pw : S1024x21.Idx → EReal) (w3 : S1024x1024.Idx → EReal)
    (b3 : S1024.Idx → EReal) (w4 : S1024x1024.Idx → EReal) (b4 : S1024.Idx → EReal) : S4x1024.Idx → EReal :=
  rhoOut (asMatrix (poolOut (phiOut x w1 (asRow b1) w2 (asRow b2)) (turned (weights Ideal pw)))) w3 (asRow b3) w4 (asRow b4)

variable (m : (ℓ : Loc nD τ sig) → Buf (Elt Ideal) ℓ) (ρ : Dev nD → PrngReg)

theorem first_call (c : Dev nD) : W2 m ρ c (Proc.devRef .tc main_call0_v2)
    = phiOut (m ((c : Thread nD τ).loc main_arg0)) (m ((c : Thread nD τ).loc main_arg1))
        (asRow (m ((c : Thread nD τ).loc main_arg2))) (m ((c : Thread nD τ).loc main_arg3))
        (asRow (m ((c : Thread nD τ).loc main_arg4))) := by
  have e0 : V1 m ρ c main_arg0 = m ((c : Thread nD τ).loc main_arg0) := W1_args m ρ c main_arg0 (by decide)
  have e1 : V1 m ρ c main_arg1 = m ((c : Thread nD τ).loc main_arg1) := W1_args m ρ c main_arg1 (by decide)
  have e2 : V1 m ρ c main_call0_v0 = asRow (m ((c : Thread nD τ).loc main_arg2)) := read_b1 _
  have e3 : V1 m ρ c main_arg3 = m ((c : Thread nD τ).loc main_arg3) := W1_args m ρ c main_arg3 (by decide)
  have e4 : V1 m ρ c main_call0_v1 = asRow (m ((c : Thread nD τ).loc main_arg4)) := read_b2 _
  have e := (W2_arr m ρ c 5).trans (final0 (V1 m ρ) c)
  rw [e0, e1, e2, e3, e4] at e
  exact e

theorem second_call (c : Dev nD) : W4 m ρ c (Proc.devRef .tc main_call0_v29)
    = poolOut (phiOut (m ((c : Thread nD τ).loc main_arg0)) (m ((c : Thread nD τ).loc main_arg1))
        (asRow (m ((c : Thread nD τ).loc main_arg2))) (m ((c : Thread nD τ).loc main_arg3))
        (asRow (m ((c : Thread nD τ).loc main_arg4)))) (turned (weights Ideal (m ((c : Thread nD τ).loc main_arg5)))) := by
  have e0 : V3 m ρ c main_call0_v2 = _ := (W3_of m ρ c main_call0_v2 (by decide)).trans (first_call m ρ c)
  have e1 : V3 m ρ c main_call0_v28 = turned (weights Ideal (m ((c : Thread nD τ).loc main_arg5))) :=
    (read_weights _).trans (congrArg (fun p => turned (weights Ideal p)) (W2_args m ρ c main_arg5 (by decide)))
  have e := (W4_arr m ρ c 2).trans (final1 (V3 m ρ) c)
  rw [e0, e1] at e
  exact e

theorem third_call (c : Dev nD) : W6 m ρ c (Proc.devRef .tc main_v0)
    = kernelOut (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) := by
  have e0 : V5 m ρ c main_call0_v30 = _ := (read_pooled _).trans (congrArg asMatrix (second_call m ρ c))
  have e1 : V5 m ρ c main_arg6 = m ((c : Thread nD τ).loc main_arg6) := W5_args m ρ c main_arg6 (by decide)
  have e2 : V5 m ρ c main_call0_v31 = asRow (m ((c : Thread nD τ).loc main_arg7)) :=
    (read_b3 _).trans (congrArg asRow (W4_args m ρ c main_arg7 (by decide)))
  have e3 : V5 m ρ c main_arg8 = m ((c : Thread nD τ).loc main_arg8) := W5_args m ρ c main_arg8 (by decide)
  have e4 : V5 m ρ c main_call0_v32 = asRow (m ((c : Thread nD τ).loc main_arg9)) :=
    (read_b4 _).trans (congrArg asRow (W4_args m ρ c main_arg9 (by decide)))
  have e := (W6_arr m ρ c 5).trans (final2 (V5 m ρ) c)
  rw [e0, e1, e2, e3, e4] at e
  exact e

end Cert.SortPool

end
-- ==== Proof.KernelRun.lean ====
/- The kernel's run with its value: the result array ends at `kernelOut` of the arguments, which end as launched. -/
module

public import proofs.«01_k».proof.Proof.KernelValue

@[expose] public section

set_option maxRecDepth 16384

noncomputable section

namespace Cert.SortPool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that is not scratch ends at the last boundary's contents. -/
theorem run_buffers : θ_run defs (onTc (τ := τ) (main (F := F))) ⟨m, fun _ => 0, ρ⟩ (fun r => ∀ c : Dev nD,
    ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c => h c)

end Cert.SortPool

namespace Cert.SortPool

open Idealize.ShloMosaic Idealize.ShloMosaic.TcCoe Idealize.SL.Sem Cert.KernelIdeal Cert.KernelIdeal.Gen

/-- The run of the kernel at the extended reals. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0)
        = kernelOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_v0 (by decide))).trans (third_call m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c)⟩) (run_buffers m ρ)

end Cert.SortPool

end
-- ==== Proof.RefText.lean ====
/- The reference's result as a term over named parts: the row network, the sorted columns, the weights, the pooled sum and the
   last network. -/
module

public import proofs.«01_k».proof.Proof.Weights
public import proofs.«01_k».proof.Proof.Gen.ReferenceIdeal.Run

@[expose] public section

set_option maxRecDepth 16384

noncomputable section

namespace Cert.SortPool

open Idealize.ShloMosaic Idealize.ShloMosaic.TcCoe Idealize.SL.Sem Cert.ReferenceIdeal Cert.ReferenceIdeal.Gen

variable (F : FTy → Type) [FloatOps F]

/-- The row network. -/
def refPhi (x : FVec F S4x2048x1024 .f32) (w1 : FVec F S1024x1024 .f32) (b1 : FVec F S1024 .f32) (w2 : FVec F S1024x1024 .f32)
    (b2 : FVec F S1024 .f32) : FVec F S4x2048x1024 .f32 :=
  addf (Host.dotGeneral dot_S4x2048x1024_S1024x1024_S4x2048x1024_2_0_01_1_n_n none (maximumf (addf (Host.dotGeneral dot_S4x2048x1024_S1024x1024_S4x2048x1024_2_0_01_1_n_n none x w1) (broadcastInDim S4x2048x1024 ![0, 1, 2] bcast_S1x1x1024_S4x2048x1024_0_1_2 (broadcastInDim S1x1x1024 ![2] bcast_S1024_S1x1x1024_2 b1))) (broadcastInDim S4x2048x1024 ![] bcast_S_S4x2048x1024 (constant S_ .f32 0x00000000#32))) w2) (broadcastInDim S4x2048x1024 ![0, 1, 2] bcast_S1x1x1024_S4x2048x1024_0_1_2 (broadcastInDim S1x1x1024 ![2] bcast_S1024_S1x1x1024_2 b2))

/-- The network's answers negated, by batch entry, column and row, -/
def refNeg (h : FVec F S4x2048x1024 .f32) : FVec F S4x1024x2048 .f32 :=
  Host.negf (transpose S4x1024x2048 [0, 2, 1] h transposes_S4x2048x1024_S4x1024x2048_0_2_1)

/-- sorted along the rows, -/
def refSorted (g : FVec F S4x1024x2048 .f32) : FVec F S4x1024x2048 .f32 := Host.sort S4x1024x2048 2 comparator_f32_d2 g

/-- and pooled. -/
def refPooled (s : FVec F S4x1024x2048 .f32) (w : FVec F S1024x2048 .f32) : FVec F S4x1024 .f32 :=
  Host.reduceAdd (mulf (Host.negf s) (broadcastInDim S4x1024x2048 ![0, 1, 2] bcast_S1x1024x2048_S4x1024x2048_0_1_2 (broadcastInDim S1x1024x2048 ![1, 2] bcast_S1024x2048_S1x1024x2048_1_2 w))) (constant S_ .f32 0x00000000#32) reducesTo_S4x1024x2048_S4x1024_d2 h_S_

/-- The last network. -/
def refRho (p : FVec F S4x1024 .f32) (w1 : FVec F S1024x1024 .f32) (b1 : FVec F S1024 .f32) (w2 : FVec F S1024x1024 .f32)
    (b2 : FVec F S1024 .f32) : FVec F S4x1024 .f32 :=
  addf (Host.dotGeneral dot_S4x1024_S1024x1024_S4x1024_1_0_0_1_n_n none (maximumf (addf (Host.dotGeneral dot_S4x1024_S1024x1024_S4x1024_1_0_0_1_n_n none p w1) (broadcastInDim S4x1024 ![0, 1] bcast_S1x1024_S4x1024_0_1 (broadcastInDim S1x1024 ![1] bcast_S1024_S1x1024_1 b1))) (broadcastInDim S4x1024 ![] bcast_S_S4x1024 (constant S_ .f32 0x00000000#32))) w2) (broadcastInDim S4x1024 ![0, 1] bcast_S1x1024_S4x1024_0_1 (broadcastInDim S1x1024 ![1] bcast_S1024_S1x1024_1 b2))

/-- The reference's result. -/
theorem result_eq (m : (ℓ : Loc nD τ sig) → Buf (Elt F) ℓ) (c : Dev nD) :
    Value.res_main_v50 m c
      = refRho F (refPooled F (refSorted F (refNeg F (refPhi F (m ((c.tc : Thread nD τ).loc main_arg0))
            (m ((c.tc : Thread nD τ).loc main_arg1)) (m ((c.tc : Thread nD τ).loc main_arg2))
            (m ((c.tc : Thread nD τ).loc main_arg3)) (m ((c.tc : Thread nD τ).loc main_arg4)))))
          (weights F (m ((c.tc : Thread nD τ).loc main_arg5))))
        (m ((c.tc : Thread nD τ).loc main_arg6)) (m ((c.tc : Thread nD τ).loc main_arg7))
        (m ((c.tc : Thread nD τ).loc main_arg8)) (m ((c.tc : Thread nD τ).loc main_arg9)) := by
  unfold Value.res_main_v50
  rfl

end Cert.SortPool

end
-- ==== Proof.RefPoint.lean ====
/- The reference's other parts read at an index, over the extended reals. -/
module

public import proofs.«01_k».proof.Proof.RefText
public import proofs.«01_k».proof.Proof.Layers
public import Idealize.ShloMosaic.Lib.Pointwise
public import Idealize.ShloMosaic.Lib.Tactic

@[expose] public section

set_option maxRecDepth 16384

noncomputable section

namespace Cert.SortPool

open Idealize.ShloMosaic Cert.ReferenceIdeal Cert.ReferenceIdeal.Gen

theorem refPhi_apply (x : S4x2048x1024.Idx → EReal) (w1 : S1024x1024.Idx → EReal) (b1 : S1024.Idx → EReal)
    (w2 : S1024x1024.Idx → EReal) (b2 : S1024.Idx → EReal) (b : Fin 4) (s : Fin 2048) (c : Fin 1024) :
    refPhi Ideal x w1 b1 w2 b2 (ix3 b s c)
      = layers (fun j => x (ix3 b s j)) w1 (fun k => b1 (ix1 k)) w2 (fun k => b2 (ix1 k)) c := by
  unfold refPhi layers
  pointwise

theorem refRho_apply (p : S4x1024.Idx → EReal) (w1 : S1024x1024.Idx → EReal) (b1 : S1024.Idx → EReal)
    (w2 : S1024x1024.Idx → EReal) (b2 : S1024.Idx → EReal) (b : Fin 4) (c : Fin 1024) :
    refRho Ideal p w1 b1 w2 b2 (ix2 b c)
      = layers (fun j => p (ix2 b j)) w1 (fun k => b1 (ix1 k)) w2 (fun k => b2 (ix1 k)) c := by
  unfold refRho layers
  pointwise

theorem refNeg_apply (h : S4x2048x1024.Idx → EReal) (b : Fin 4) (c : Fin 1024) (r : Fin 2048) :
    refNeg Ideal h (ix3 b c r) = - h (ix3 b r c) := by
  unfold refNeg
  pointwise

theorem refPooled_apply (s : S4x1024x2048.Idx → EReal) (w : S1024x2048.Idx → EReal) (b : Fin 4) (c : Fin 1024) :
    refPooled Ideal s w (ix2 b c) = ∑ r : Fin 2048, - s (ix3 b c r) * w (ix2 c r) := by
  unfold refPooled
  pointwise

end Cert.SortPool

end
-- ==== Proof.RefSort.lean ====
/- The reference's sort read at an index: along the rows it leaves each column's entries in rising order. -/
module

public import proofs.«01_k».proof.Proof.RefText
public import proofs.«01_k».proof.Proof.Rising
public import Idealize.ShloMosaic.Lib.SortFacts

@[expose] public section

set_option maxRecDepth 16384

noncomputable section

namespace Cert.SortPool

open Idealize.ShloMosaic Cert.ReferenceIdeal Cert.ReferenceIdeal.Gen

/-- The comparator is the order of the extended reals: the zeros it makes alike are one here, and nothing is unordered. -/
theorem comparator_eq (a b : EReal) : (comparator_f32_d2 (F := Ideal) a b == 1#1) = decide (a < b) := by
  have zero : ∀ v : EReal, Scalar.select (Ideal.cmp .oeq v (Ideal.ofBits .f32 0x00000000#32)) (Ideal.ofBits .f32 0x00000000#32) v = v := by
    intro v
    rw [Ideal.ofBits_zero_f32]
    by_cases h : v = 0
    · subst h
      unfold Scalar.select
      split <;> rfl
    · have : Ideal.cmp .oeq v 0 = 0#1 := by
        show BitVec.ofBool (decide (v = 0)) = _
        rw [decide_eq_false h]
        rfl
      rw [this]
      rfl
  have e : comparator_f32_d2 (F := Ideal) a b = BitVec.ofBool (decide (a < b)) := by
    have none' : ∀ u w v : EReal, Scalar.select (Ideal.cmp .une v v) u w = w := by
      intro u w v
      have : Ideal.cmp .une v v = 0#1 := by
        show BitVec.ofBool (decide (v ≠ v)) = _
        rw [decide_eq_false (fun h => h rfl)]
        rfl
      rw [this]
      rfl
    refine Eq.trans (b := Ideal.cmp .olt
      (Scalar.select (Ideal.cmp .une a a) (Ideal.ofBits .f32 0x7FC00000#32)
        (Scalar.select (Ideal.cmp .oeq a (Ideal.ofBits .f32 0x00000000#32)) (Ideal.ofBits .f32 0x00000000#32) a))
      (Scalar.select (Ideal.cmp .une b b) (Ideal.ofBits .f32 0x7FC00000#32)
        (Scalar.select (Ideal.cmp .oeq b (Ideal.ofBits .f32 0x00000000#32)) (Ideal.ofBits .f32 0x00000000#32) b))) rfl ?_
    rw [none', none', zero, zero]
    rfl
  rw [e]
  cases decide (a < b) <;> rfl

/-- The order that sorts a list of extended reals is a rearrangement of its places, -/
theorem order_bijective {n : ℕ} (v : Fin n → EReal) :
    Function.Bijective (sortedFrom (fun k k' => decide (v k < v k'))) :=
  ⟨sortedFrom_injective _, sortedFrom_surjective _⟩

/-- and read through it the list rises. -/
theorem order_monotone {n : ℕ} (v : Fin n → EReal) :
    Monotone (fun r => v (sortedFrom (fun k k' => decide (v k < v k')) r)) := by
  intro i j hij
  rcases hij.eq_or_lt with h | h
  · rw [h]
  · refine not_lt.mp (of_decide_eq_false (sortedFrom_noInversion (fun k k' => decide (v k < v k'))
      (fun k k' => decide (v k < v k')) ?_ (fun _ _ h => h) ?_ i j h))
    · intro a b h
      exact decide_eq_false (not_lt.mpr (of_decide_eq_true h).le)
    · intro a b c h h'
      exact decide_eq_false (not_lt.mpr ((not_lt.mp (of_decide_eq_false h')).trans (not_lt.mp (of_decide_eq_false h))))

/-- A list read through some rearrangement of its places, and rising, is the list in rising order. -/
theorem rising_of (v f : Fin 2048 → EReal) (o : Fin 2048 → Fin 2048) (ho : Function.Bijective o) (hf : Monotone f)
    (e : ∀ r, f r = v (o r)) (r : Fin 2048) : f r = rising v r :=
  congrFun (eq_rising v f hf (Equiv.ofBijective o ho) (funext e)) r

/-- Moving along the rows changes the last coordinate. -/
theorem along_rows (b : Fin 4) (c : Fin 1024) (r k : Fin 2048) :
    (ix3 b c r : S4x1024x2048.Idx).along (2 : Fin 3) k = ix3 b c k := by
  funext a
  match a with
  | ⟨0, _⟩ => rfl
  | ⟨1, _⟩ => rfl
  | ⟨2, _⟩ => rfl

theorem refSorted_apply (g : S4x1024x2048.Idx → EReal) (b : Fin 4) (c : Fin 1024) (r : Fin 2048) :
    refSorted Ideal g (ix3 b c r) = rising (fun r => g (ix3 b c r)) r := by
  refine Eq.trans ?_ (rising_of (fun r => g (ix3 b c r)) _ _ (order_bijective (fun r => g (ix3 b c r)))
    (order_monotone (fun r => g (ix3 b c r))) (fun _ => rfl) r)
  unfold refSorted Host.sort
  rw [dif_pos (show 2 < S4x1024x2048.rank by decide)]
  refine (congrArg g (along_rows b c r _)).trans ?_
  refine congrArg (fun k => g (ix3 b c k)) ?_
  refine congrFun (congrArg sortedFrom (funext fun k => funext fun k' => ?_)) r
  refine (comparator_eq _ _).trans ?_
  exact congrArg₂ (fun p q => decide (g p < g q)) (along_rows b c r k) (along_rows b c r k')

end Cert.SortPool

end
-- ==== Proof.Finite.lean ====
/- The extended reals that are real numbers: closed under what the two programs compute before they pool, and what the
   precondition says of the arguments it names. -/
module

public import proofs.«01_k».proof.Proof.Layers
public import proofs.«01_k».proof.Proof.Gen.Pre_finite_pooling
public import Idealize.ShloMosaic.Lib.ReduceAll

@[expose] public section

set_option maxRecDepth 16384

noncomputable section

namespace Cert.SortPool

open Idealize.ShloMosaic

/-- `v` is a real number. -/
def IsReal (v : EReal) : Prop := ∃ r : ℝ, v = (r : EReal)

theorem IsReal.add {u v : EReal} : IsReal u → IsReal v → IsReal (u + v) := by
  rintro ⟨a, rfl⟩ ⟨b, rfl⟩
  exact ⟨a + b, (EReal.coe_add a b).symm⟩

theorem IsReal.sub {u v : EReal} : IsReal u → IsReal v → IsReal (u - v) := by
  rintro ⟨a, rfl⟩ ⟨b, rfl⟩
  exact ⟨a - b, (EReal.coe_sub a b).symm⟩

theorem IsReal.mul {u v : EReal} : IsReal u → IsReal v → IsReal (u * v) := by
  rintro ⟨a, rfl⟩ ⟨b, rfl⟩
  exact ⟨a * b, (EReal.coe_mul a b).symm⟩

theorem IsReal.neg {u : EReal} : IsReal u → IsReal (-u) := by
  rintro ⟨a, rfl⟩
  exact ⟨-a, (EReal.coe_neg a).symm⟩

theorem IsReal.zero : IsReal 0 := ⟨0, EReal.coe_zero.symm⟩

theorem IsReal.max {u v : EReal} (hu : IsReal u) (hv : IsReal v) : IsReal (max u v) := by
  rcases max_choice u v with h | h <;> rw [h] <;> assumption

theorem IsReal.sum {ι : Type} (s : Finset ι) (f : ι → EReal) (h : ∀ i, IsReal (f i)) : IsReal (∑ i ∈ s, f i) := by
  classical
  induction s using Finset.induction_on with
  | empty => rw [Finset.sum_empty]; exact IsReal.zero
  | insert a s ha ih => rw [Finset.sum_insert ha]; exact (h a).add ih

/-- Of real terms, the negated sum is the sum of the negated terms. -/
theorem neg_sum_real {ι : Type} (s : Finset ι) (f : ι → EReal) (h : ∀ i, IsReal (f i)) :
    0 - ∑ i ∈ s, f i = ∑ i ∈ s, - f i := by
  choose r hr using h
  have e : f = fun i => (r i : EReal) := funext hr
  subst e
  have n : ∀ i, -((r i : ℝ) : EReal) = ((-(r i) : ℝ) : EReal) := fun i => (EReal.coe_neg _).symm
  have cs : ∀ q : ι → ℝ, ∑ i ∈ s, ((q i : ℝ) : EReal) = ((∑ i ∈ s, q i : ℝ) : EReal) := by
    classical
    intro q
    induction s using Finset.induction_on with
    | empty => rw [Finset.sum_empty, Finset.sum_empty, EReal.coe_zero]
    | insert a s ha ih => rw [Finset.sum_insert ha, Finset.sum_insert ha, EReal.coe_add, ih]
  simp only [n]
  rw [cs, cs, Finset.sum_neg_distrib, zero_sub, EReal.coe_neg]

/-- Two layers take reals to reals. -/
theorem layers_real (x : Fin 1024 → EReal) (w1 : Shape.Idx ⟨2, ![1024, 1024]⟩ → EReal) (b1 : Fin 1024 → EReal)
    (w2 : Shape.Idx ⟨2, ![1024, 1024]⟩ → EReal) (b2 : Fin 1024 → EReal) (c : Fin 1024)
    (hx : ∀ j, IsReal (x j)) (hw1 : ∀ i, IsReal (w1 i)) (hb1 : ∀ k, IsReal (b1 k)) (hw2 : ∀ i, IsReal (w2 i))
    (hb2 : ∀ k, IsReal (b2 k)) : IsReal (layers x w1 b1 w2 b2 c) := by
  unfold layers
  exact (IsReal.sum _ _ fun k => (((IsReal.sum _ _ fun j => (hx j).mul (hw1 _)).add (hb1 k)).max IsReal.zero).mul (hw2 _)).add (hb2 c)

/-- An absolute value below `⊤` is a real's. -/
theorem real_of_abs_lt (v : EReal)
    (h : Ideal.cmp .olt (max v (-v)) (Ideal.ofBits .f32 0x7F800000#32) = 1#1) : IsReal v := by
  have htop : Ideal.ofBits .f32 0x7F800000#32 = ⊤ := by simp [Ideal.ofBits, Ideal.ieee]
  rw [htop] at h
  have lt : max v (-v) < ⊤ := by
    by_contra hn
    have : Ideal.cmp .olt (max v (-v)) ⊤ = BitVec.ofBool (decide (max v (-v) < ⊤)) := rfl
    rw [this, decide_eq_false hn] at h
    exact absurd h (by decide)
  have h1 : v ≠ ⊤ := fun e => by subst e; exact absurd lt (by simp)
  have h2 : v ≠ ⊥ := fun e => by subst e; exact absurd lt (by simp)
  exact ⟨v.toReal, (EReal.coe_toReal h1 h2).symm⟩

instance : Subsingleton (Shape.Idx Cert.Pre_finite_pooling.S_) := ⟨fun a b => funext fun i => i.elim0⟩

open Cert.Pre_finite_pooling Cert.Pre_finite_pooling.Gen in
/-- One test of the precondition, read back. -/
theorem real_of_all {s : Shape} {axes : List (Fin s.rank)} (x : s.Idx → EReal) (bc : S_.BroadcastsInDim s (![] : Fin 0 → Fin s.rank))
    (red : s.ReducesTo axes S_) (h0 : 0 < S_.numel) (init : S_.Idx → BitVec 1) (j : S_.Idx)
    (h : Host.reduce IntOp.andi (cmpf (F := Ideal) (φ := .f32) .olt (Host.absf (F := Ideal) (φ := .f32) x)
      (broadcastInDim s ![] bc (constant (F := Ideal) S_ .f32 0x7F800000#32))) init red h0 j = 1#1) (i : s.Idx) : IsReal (x i) :=
  real_of_abs_lt (x i) (Host.reduce_andi_all _ init red h0 j h i)

open Cert.Pre_finite_pooling Cert.Pre_finite_pooling.Gen in
/-- What the precondition says: the six arguments it names hold real numbers. -/
theorem finite_args (a0 : S4x2048x1024.Idx → EReal) (a1 : S1024x1024.Idx → EReal) (a2 : S1024.Idx → EReal)
    (a3 : S1024x1024.Idx → EReal) (a4 : S1024.Idx → EReal) (a5 : S1024x21.Idx → EReal) (a6 : S1024x1024.Idx → EReal)
    (a7 : S1024.Idx → EReal) (a8 : S1024x1024.Idx → EReal) (a9 : S1024.Idx → EReal)
    (h : Cert.Pre_finite_pooling.fn (F := Ideal) a0 a1 a2 a3 a4 a5 a6 a7 a8 a9 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) := by
  have h' := congrFun h (Shape.Idx.first h_S_)
  unfold Cert.Pre_finite_pooling.fn at h'
  dsimp only at h'
  unfold Cert.Pre_finite_pooling.fn_part1 at h'
  dsimp only at h'
  obtain ⟨h', t5⟩ := IntOp.andi_eq_one.1 h'
  obtain ⟨h', t4⟩ := IntOp.andi_eq_one.1 h'
  obtain ⟨h', t3⟩ := IntOp.andi_eq_one.1 h'
  obtain ⟨h', t2⟩ := IntOp.andi_eq_one.1 h'
  obtain ⟨t0, t1⟩ := IntOp.andi_eq_one.1 h'
  exact ⟨real_of_all a0 _ _ _ _ _ t0, real_of_all a1 _ _ _ _ _ t1, real_of_all a2 _ _ _ _ _ t2, real_of_all a3 _ _ _ _ _ t3,
    real_of_all a4 _ _ _ _ _ t4, real_of_all a5 _ _ _ _ _ t5⟩

end Cert.SortPool

end
-- ==== Proof.WeightsFinite.lean ====
/- The pooling weights are real numbers when the table's entries are: every row falls on a piece of the table, so no weight
   is the filler that stands for an index outside of it. -/
module

public import proofs.«01_k».proof.Proof.Weights
public import proofs.«01_k».proof.Proof.Finite

@[expose] public section

set_option maxRecDepth 16384

noncomputable section

namespace Cert.SortPool

open Idealize.ShloMosaic Cert.ReferenceIdeal Cert.ReferenceIdeal.Gen

theorem ofBits_twenty : Ideal.ofBits .f32 0x41A00000#32 = ((20 : ℝ) : EReal) := by
  simp [Ideal.ofBits, Ideal.ieee, -EReal.coe_mul]; norm_num

theorem ofBits_last : Ideal.ofBits .f32 0x44FFE000#32 = ((2047 : ℝ) : EReal) := by
  simp [Ideal.ofBits, Ideal.ieee, -EReal.coe_mul]; norm_num

/-- A row's number as a word is that number. -/
theorem row_word (i : Fin 2048) : (BitVec.ofNat 32 i.val).toInt = (i.val : ℤ) := by
  have := i.isLt
  rw [BitVec.toInt_eq_toNat_cond, BitVec.toNat_ofNat]
  omega

/-- A position lies between the table's first and last column. -/
theorem position_eq (i : Fin 2048) : position Ideal (ix1 i) = ((20 * ((i.val : ℝ) * (2047 : ℝ)⁻¹) : ℝ) : EReal) := by
  refine Eq.trans (b := Ideal.ofBits .f32 0x41A00000#32 * Ideal.div ((((BitVec.ofNat 32 i.val).toInt : ℤ) : ℝ) : EReal)
    (max (Ideal.ofBits .f32 0x3F800000#32) (Ideal.ofBits .f32 0x44FFE000#32))) rfl ?_
  rw [row_word, ofBits_twenty, ofBits_last, Ideal.ofBits_one_f32]
  have hm : max (1 : EReal) ((2047 : ℝ) : EReal) = ((2047 : ℝ) : EReal) :=
    max_eq_right (by rw [← EReal.coe_one]; exact EReal.coe_le_coe_iff.2 (by norm_num))
  rw [hm]
  unfold Ideal.div
  rw [if_neg (by rw [← EReal.coe_zero]; exact fun h => absurd (EReal.coe_eq_coe_iff.1 h) (by norm_num))]
  rw [← EReal.coe_inv, Int.cast_natCast, ← EReal.coe_mul, ← EReal.coe_mul]

theorem position_real (j : S2048.Idx) : IsReal (position Ideal j) := by
  exact ⟨_, (congrArg (position Ideal) (ix1_eta j).symm).trans (position_eq (j 0))⟩

/-- Rounding a real number from 0 to 20 towards zero gives a whole number from 0 to 20. -/
theorem fptosi_mem (r : ℝ) (h0 : 0 ≤ r) (h20 : r ≤ 20) : ∃ n : ℕ, n < 21 ∧ Ideal.fptosi 32 (r : EReal) = BitVec.ofNat 32 n := by
  have f0 : 0 ≤ ⌊r⌋ := Int.floor_nonneg.2 h0
  have f20 : ⌊r⌋ ≤ 20 := by
    have := (Int.floor_le r).trans h20
    exact_mod_cast this
  have e : max (-((2 ^ (32 - 1) : ℕ) : ℤ)) (min (((2 ^ (32 - 1) : ℕ) : ℤ) - 1) ⌊r⌋) = ((⌊r⌋.toNat : ℕ) : ℤ) := by
    norm_num
    omega
  refine ⟨⌊r⌋.toNat, by omega, ?_⟩
  unfold Ideal.fptosi
  rw [Ideal.toIntClamped_coe, if_pos h0, e]
  exact BitVec.ofInt_natCast 32 _

/-- A row's position is at most 20. -/
theorem position_le (i : Fin 2048) : 20 * ((i.val : ℝ) * (2047 : ℝ)⁻¹) ≤ 20 := by
  have hi : ((i.val : ℝ)) ≤ 2047 := by
    have := i.isLt
    exact_mod_cast (show i.val ≤ 2047 by omega)
  have : (i.val : ℝ) * (2047 : ℝ)⁻¹ ≤ 1 := by
    rw [← div_eq_mul_inv, div_le_one (by norm_num)]
    exact hi
  linarith

/-- A row's piece is one of the table's columns, -/
theorem piece_row (i : Fin 2048) : ∃ n : ℕ, n < 21 ∧ piece Ideal (ix1 i) = BitVec.ofNat 32 n := by
  obtain ⟨n, hn, e⟩ := fptosi_mem (20 * ((i.val : ℝ) * (2047 : ℝ)⁻¹)) (by positivity) (position_le i)
  have e' : piece Ideal (ix1 i) = Ideal.fptosi 32 (position Ideal (ix1 i)) := rfl
  exact ⟨n, hn, e'.trans ((congrArg (Ideal.fptosi 32) (position_eq i)).trans e)⟩

theorem piece_mem (j : S2048.Idx) : ∃ n : Fin 21, piece Ideal j = BitVec.ofNat 32 n.val := by
  obtain ⟨n, hlt, hn⟩ := piece_row (j 0)
  exact ⟨⟨n, hlt⟩, (congrArg (piece Ideal) (ix1_eta j).symm).trans hn⟩

/-- and so is the next. -/
theorem nextPiece_mem (j : S2048.Idx) : ∃ n : Fin 21, nextPiece Ideal j = BitVec.ofNat 32 n.val := by
  have step : ∀ n : Fin 21, ∃ k : Fin 21, IntOp.minsi (IntOp.addi (BitVec.ofNat 32 n.val) 1#32) 20#32 = BitVec.ofNat 32 k.val := by
    decide
  obtain ⟨n, hn⟩ := piece_mem j
  obtain ⟨k, hk⟩ := step n
  refine ⟨k, Eq.trans (b := IntOp.minsi (IntOp.addi (piece Ideal j) 1#32) 20#32) rfl ?_⟩
  rw [hn, hk]

/-- An index into the table, a negative one counted from the end, as a word. -/
def startWord (b : BitVec 32) : BitVec 32 := Scalar.select (IntOp.cmpi .slt b 0#32) (IntOp.addi b 21#32) b

/-- Every index of `ix` is one of the table's columns: then it is found to lie within the table. -/
theorem within_one (ix : IVec S2048 32) (h : ∀ j, ∃ n : Fin 21, ix j = BitVec.ofNat 32 n.val) (i : S2048x1.Idx) :
    within ix i = 1#1 := by
  have test : ∀ n : Fin 21, IntOp.andi (IntOp.cmpi .sge (startWord (BitVec.ofNat 32 n.val)) 0#32)
      (IntOp.cmpi .sle (startWord (BitVec.ofNat 32 n.val)) 20#32) = 1#1 := by decide
  have e : ∃ j, within ix i = IntOp.andi (IntOp.cmpi .sge (startWord (ix j)) 0#32) (IntOp.cmpi .sle (startWord (ix j)) 20#32) :=
    ⟨_, rfl⟩
  obtain ⟨j, e⟩ := e
  obtain ⟨n, hn⟩ := h j
  rw [e, hn, test]

/-- What is read from a table of reals at such indices is real. -/
theorem taken_real (pw : S1024x21.Idx → EReal) (hpw : ∀ i, IsReal (pw i)) (ix : IVec S2048 32)
    (h : ∀ j, ∃ n : Fin 21, ix j = BitVec.ofNat 32 n.val) (i : S1024x2048.Idx) : IsReal (taken Ideal pw ix i) := by
  have e : ∃ j k, taken Ideal pw ix i = Scalar.select
      (Host.reduce IntOp.andi (within ix) (constantI S_ 1 1#1) reducesTo_S2048x1_S2048_d1 h_S_ j) (pw k)
      (Ideal.ofBits .f32 0x7FC00000#32) := ⟨_, _, rfl⟩
  obtain ⟨j, k, e⟩ := e
  rw [e, Host.reduce_andi_one _ _ _ _ _ rfl (within_one ix h)]
  exact hpw k

theorem along_real (j : S2048.Idx) : IsReal (along Ideal j) :=
  (position_real j).sub ⟨_, rfl⟩

/-- The weights are real. -/
theorem weights_real (pw : S1024x21.Idx → EReal) (hpw : ∀ i, IsReal (pw i)) (i : S1024x2048.Idx) :
    IsReal (weights Ideal pw i) := by
  have e : ∃ j k, weights Ideal pw i = (Ideal.ofBits .f32 0x3F800000#32 - along Ideal j) * taken Ideal pw (piece Ideal) i
      + along Ideal k * taken Ideal pw (nextPiece Ideal) i := ⟨_, _, rfl⟩
  obtain ⟨j, k, e⟩ := e
  rw [e, Ideal.ofBits_one_f32]
  exact ((IsReal.sub ⟨1, EReal.coe_one.symm⟩ (along_real j)).mul (taken_real pw hpw _ piece_mem i)).add
    ((along_real k).mul (taken_real pw hpw _ nextPiece_mem i))

end Cert.SortPool

end
-- ==== Proof.Agree.lean ====
/- The kernel's result is the reference's, where what is pooled and the weights are real numbers. -/
module

public import proofs.«01_k».proof.Proof.KernelValue
public import proofs.«01_k».proof.Proof.RefPoint
public import proofs.«01_k».proof.Proof.RefSort
public import proofs.«01_k».proof.Proof.WeightsFinite

@[expose] public section

set_option maxRecDepth 16384

noncomputable section

namespace Cert.SortPool

open Idealize.ShloMosaic Cert.KernelIdeal Cert.KernelIdeal.Gen

theorem asRow_apply (b : S1024.Idx → EReal) (z : Fin 1) (k : Fin 1024) : asRow b (ix2 z k) = b (ix1 k) := by
  unfold asRow
  pointwise

theorem turned_apply (w : S1024x2048.Idx → EReal) (r : Fin 2048) (c : Fin 1024) : turned w (ix2 r c) = w (ix2 c r) := by
  unfold turned
  pointwise

theorem asMatrix_apply (p : S4x1x1024.Idx → EReal) (b : Fin 4) (c : Fin 1024) : asMatrix p (ix2 b c) = p (ix3 b 0 c) := by
  unfold asMatrix
  pointwise

/-- The first network's answers, over the reference's biases. -/
theorem phiOut_apply (x : S4x2048x1024.Idx → EReal) (w1 : S1024x1024.Idx → EReal) (b1 : S1024.Idx → EReal)
    (w2 : S1024x1024.Idx → EReal) (b2 : S1024.Idx → EReal) (b : Fin 4) (s : Fin 2048) (c : Fin 1024) :
    phiOut x w1 (asRow b1) w2 (asRow b2) (ix3 b s c)
      = layers (fun j => x (ix3 b s j)) w1 (fun k => b1 (ix1 k)) w2 (fun k => b2 (ix1 k)) c := by
  refine Eq.trans (b := layers (fun j => x (ix3 b s j)) w1 (fun k => asRow b1 (ix2 0 k)) w2 (fun k => asRow b2 (ix2 0 k)) c) rfl ?_
  simp only [asRow_apply]

theorem phi_agrees (x : S4x2048x1024.Idx → EReal) (w1 : S1024x1024.Idx → EReal) (b1 : S1024.Idx → EReal)
    (w2 : S1024x1024.Idx → EReal) (b2 : S1024.Idx → EReal) :
    phiOut x w1 (asRow b1) w2 (asRow b2) = refPhi Ideal x w1 b1 w2 b2 := by
  funext i
  rw [eq_ix3 i]
  exact (phiOut_apply x w1 b1 w2 b2 _ _ _).trans (refPhi_apply x w1 b1 w2 b2 _ _ _).symm

/-- Of real values and weights, the kernel's negated sum of the sorted column is the reference's sum of its negation. -/
theorem pool_apply (h : S4x2048x1024.Idx → EReal) (w : S1024x2048.Idx → EReal) (hh : ∀ i, IsReal (h i)) (hw : ∀ i, IsReal (w i))
    (b : Fin 4) (c : Fin 1024) : asMatrix (poolOut h (turned w)) (ix2 b c)
      = refPooled Ideal (refSorted Ideal (refNeg Ideal h)) w (ix2 b c) := by
  refine (asMatrix_apply _ b c).trans (Eq.trans ?_ (refPooled_apply _ w b c).symm)
  refine Eq.trans (b := 0 - ∑ r : Fin 2048, rising (fun r => - h (ix3 b r c)) r * turned w (ix2 r c)) rfl ?_
  have real : ∀ r : Fin 2048, IsReal (rising (fun r => - h (ix3 b r c)) r * turned w (ix2 r c)) := by
    intro r
    obtain ⟨σ, e⟩ := rising_perm (fun r => - h (ix3 b r c))
    rw [e, turned_apply]
    exact (hh _).neg.mul (hw _)
  rw [neg_sum_real _ _ real]
  refine Finset.sum_congr rfl fun r _ => ?_
  have s : refSorted Ideal (refNeg Ideal h) (ix3 b c r) = rising (fun r => - h (ix3 b r c)) r := by
    rw [refSorted_apply]
    simp only [refNeg_apply]
  rw [s, turned_apply, EReal.neg_mul]

theorem pool_agrees (h : S4x2048x1024.Idx → EReal) (w : S1024x2048.Idx → EReal) (hh : ∀ i, IsReal (h i)) (hw : ∀ i, IsReal (w i)) :
    asMatrix (poolOut h (turned w)) = refPooled Ideal (refSorted Ideal (refNeg Ideal h)) w := by
  funext i
  rw [eq_ix2 i]
  exact pool_apply h w hh hw _ _

theorem rho_agrees (p : S4x1024.Idx → EReal) (w1 : S1024x1024.Idx → EReal) (b1 : S1024.Idx → EReal)
    (w2 : S1024x1024.Idx → EReal) (b2 : S1024.Idx → EReal) :
    rhoOut p w1 (asRow b1) w2 (asRow b2) = refRho Ideal p w1 b1 w2 b2 := by
  funext i
  rw [eq_ix2 i]
  generalize i 0 = b
  generalize i 1 = c
  refine Eq.trans ?_ (refRho_apply p w1 b1 w2 b2 b c).symm
  refine Eq.trans (b := layers (fun j => p (ix2 b j)) w1 (fun k => asRow b1 (ix2 0 k)) w2 (fun k => asRow b2 (ix2 0 k)) c) rfl ?_
  simp only [asRow_apply]

/-- The kernel's result is the reference's, when the first network's arguments and the table are real. -/
theorem kernelOut_eq (x : S4x2048x1024.Idx → EReal) (w1 : S1024x1024.Idx → EReal) (b1 : S1024.Idx → EReal)
    (w2 : S1024x1024.Idx → EReal) (b2 : S1024.Idx → EReal) (pw : S1024x21.Idx → EReal) (w3 : S1024x1024.Idx → EReal)
    (b3 : S1024.Idx → EReal) (w4 : S1024x1024.Idx → EReal) (b4 : S1024.Idx → EReal)
    (hx : ∀ i, IsReal (x i)) (hw1 : ∀ i, IsReal (w1 i)) (hb1 : ∀ i, IsReal (b1 i)) (hw2 : ∀ i, IsReal (w2 i))
    (hb2 : ∀ i, IsReal (b2 i)) (hpw : ∀ i, IsReal (pw i)) :
    kernelOut x w1 b1 w2 b2 pw w3 b3 w4 b4
      = refRho Ideal (refPooled Ideal (refSorted Ideal (refNeg Ideal (refPhi Ideal x w1 b1 w2 b2))) (weights Ideal pw)) w3 b3 w4 b4 := by
  have hh : ∀ i, IsReal (refPhi Ideal x w1 b1 w2 b2 i) := by
    intro i
    rw [eq_ix3 i]
    refine (refPhi_apply x w1 b1 w2 b2 _ _ _).symm ▸ ?_
    exact layers_real _ _ _ _ _ _ (fun _ => hx _) hw1 (fun _ => hb1 _) hw2 (fun _ => hb2 _)
  unfold kernelOut
  rw [phi_agrees, rho_agrees]
  exact congrArg (fun p => refRho Ideal p w3 b3 w4 b4) (pool_agrees _ _ hh (weights_real pw hpw))

end Cert.SortPool

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_pooling
public import proofs.«01_k».proof.Proof.KernelRun
public import proofs.«01_k».proof.Proof.Agree
public import Idealize.ShloMosaic.Adequacy
public import Idealize.ShloMosaic.Init

@[expose] public section

noncomputable section

namespace Cert.Proof

open Idealize.ShloMosaic Idealize.SL.Sem

/-- The reference as the ideal pass prints it leaves its arguments as they were; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- On finite arguments the kernel and the reference end with the same result. -/
theorem results_agree : Cert.algebraic_KernelIdeal_ReferenceIdeal_pre_finite_pooling := by
  intro m g m' g' hpre hargs
  refine ⟨fun c => Cert.SortPool.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    Cert.SortPool.kernel_run m g, ?_⟩
  refine (θ_run Cert.ReferenceIdeal.defs _ _).mono (fun r h c => ⟨(h c).1.trans ?_, (h c).2⟩) (Cert.ReferenceIdeal.Value.run m' g')
  obtain ⟨r0, r1, r2, r3, r4, r5⟩ := Cert.SortPool.finite_args _ _ _ _ _ _ _ _ _ _ (hpre c)
  obtain ⟨e0, e1, e2, e3, e4, e5, e6, e7, e8, e9⟩ := hargs c
  rw [Cert.SortPool.result_eq, e0, e1, e2, e3, e4, e5, e6, e7, e8, e9]
  exact (Cert.SortPool.kernelOut_eq _ _ _ _ _ _ _ _ _ _ r0 r1 r2 r3 r4 r5).symm

theorem claim : Cert.Claim :=
  ⟨Cert.Kernel.Gen.facts, Cert.KernelIdeal.Gen.facts, Cert.ReferenceIdeal.Gen.facts, Cert.Pre_finite_pooling.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial, results_agree⟩

end Cert.Proof

end
